-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probabilities [hPre_probabilities : Cert.Pre_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probabilities [hPre_probabilities : Cert.Pre_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_probabilities [hKernelIdeal : Cert.KernelIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_probabilities [hReferenceIdeal : Cert.ReferenceIdeal.Facts] [hPre_probabilities : Cert.Pre_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_probabilities [hKernelIdeal : Cert.KernelIdeal.Facts] [hReferenceIdeal : Cert.ReferenceIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_probabilities : Cert.Pre_probabilities.Facts),
    quiescent_Kernel (hKernel := hKernel)
    ∧ quiescent_KernelIdeal (hKernelIdeal := hKernelIdeal)
    ∧ quiescent_KernelIdeal_pre_probabilities (hKernelIdeal := hKernelIdeal) (hPre_probabilities := hPre_probabilities)
    ∧ quiescent_ReferenceIdeal (hReferenceIdeal := hReferenceIdeal)
    ∧ quiescent_ReferenceIdeal_pre_probabilities (hReferenceIdeal := hReferenceIdeal) (hPre_probabilities := hPre_probabilities)
    ∧ preserves_Kernel_KernelIdeal
    ∧ algebraic_KernelIdeal_ReferenceIdeal_pre_probabilities (hKernelIdeal := hKernelIdeal) (hReferenceIdeal := hReferenceIdeal) (hPre_probabilities := hPre_probabilities)
-- ==== Pre_probabilities.lean ====
abbrev S16384x1000 : Shape := ⟨2, ![16384, 1000]⟩
abbrev S_ : Shape := ⟨0, ![]⟩

class Facts : Prop where
  bcast_S_S16384x1000 : S_.BroadcastsInDim S16384x1000 (![] : Fin 0 → Fin S16384x1000.rank)

variable [Facts]

def fn {F : FTy → Type} [FloatOps F] (main_arg0 : FVec F S16384x1000 .f32) (main_arg1 : FVec F S16384x1000 .f32) : IVec S16384x1000 1 :=
  let main_cst : FVec F S_ .f32 := constant S_ .f32 0x00000000#32
  let main_v0 : FVec F S16384x1000 .f32 := broadcastInDim S16384x1000 ![] bcast_S_S16384x1000 main_cst
  let main_v1 : IVec S16384x1000 1 := cmpf .ogt main_arg0 main_v0
  let main_cst_0 : FVec F S_ .f32 := constant S_ .f32 0x3F800000#32
  let main_v2 : FVec F S16384x1000 .f32 := broadcastInDim S16384x1000 ![] bcast_S_S16384x1000 main_cst_0
  let main_v3 : IVec S16384x1000 1 := cmpf .olt main_arg0 main_v2
  let main_v4 : IVec S16384x1000 1 := andi main_v1 main_v3
  let main_cst_1 : FVec F S_ .f32 := constant S_ .f32 0x00000000#32
  let main_v5 : FVec F S16384x1000 .f32 := broadcastInDim S16384x1000 ![] bcast_S_S16384x1000 main_cst_1
  let main_v6 : IVec S16384x1000 1 := cmpf .oge main_arg1 main_v5
  let main_v7 : IVec S16384x1000 1 := andi main_v4 main_v6
  let main_cst_2 : FVec F S_ .f32 := constant S_ .f32 0x3F800000#32
  let main_v8 : FVec F S16384x1000 .f32 := broadcastInDim S16384x1000 ![] bcast_S_S16384x1000 main_cst_2
  let main_v9 : IVec S16384x1000 1 := cmpf .ole main_arg1 main_v8
  let main_v10 : IVec S16384x1000 1 := andi main_v7 main_v9
  main_v10
-- ==== Kernel.lean ====
abbrev S16384x1000 : Shape := ⟨2, ![16384, 1000]⟩
abbrev S1000x16384 : Shape := ⟨2, ![1000, 16384]⟩
abbrev S1x1 : Shape := ⟨2, ![1, 1]⟩
abbrev S1000x1024 : Shape := ⟨2, ![1000, 1024]⟩
abbrev S19x8x128 : Shape := ⟨3, ![19, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 5
  | .smem => 1
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S1000x16384, .f32⟩
  | .hbm, ⟨3, _⟩ => ⟨S1000x16384, .f32⟩
  | .hbm, ⟨4, _⟩ => ⟨S1x1, .f32⟩
  | .hbm, ⟨5, _⟩ => ⟨S_, .f32⟩
  | .local _ .vmem, ⟨0, _⟩ => ⟨S1000x1024, .f32⟩
  | .local _ .vmem, ⟨1, _⟩ => ⟨S1000x1024, .f32⟩
  | .local _ .vmem, ⟨2, _⟩ => ⟨S1000x1024, .f32⟩
  | .local _ .vmem, ⟨3, _⟩ => ⟨S1000x1024, .f32⟩
  | .local _ .vmem, ⟨4, _⟩ => ⟨S19x8x128, .f32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c125_i32 : BitVec 32 := 125#32
  let v4 : BitVec 32 := Scalar.addi c0_i32_1 c125_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  v123
def k0_off1 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v125 : Index := Scalar.indexCast v124
  let c0_99 : Index := 0#32
  ![v125.toNat, 0]
def k0_off2 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v216 : Index := Scalar.indexCast v124
  let c128 : Index := 128#32
  ![v216.toNat, 128]
def k0_off3 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v307 : Index := Scalar.indexCast v124
  let c256 : Index := 256#32
  ![v307.toNat, 256]
def k0_off4 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v398 : Index := Scalar.indexCast v124
  let c384 : Index := 384#32
  ![v398.toNat, 384]
def k0_off5 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v489 : Index := Scalar.indexCast v124
  let c512 : Index := 512#32
  ![v489.toNat, 512]
def k0_off6 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v580 : Index := Scalar.indexCast v124
  let c640 : Index := 640#32
  ![v580.toNat, 640]
def k0_off7 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v671 : Index := Scalar.indexCast v124
  let c768 : Index := 768#32
  ![v671.toNat, 768]
def k0_off8 (k0_t1 : Fin k0_t1_loop.trips) : Fin 2 → Nat :=
  let c0_i32_1 : BitVec 32 := 0#32
  let c1_i32 : BitVec 32 := 1#32
  let arg5 : BitVec 32 := Scf.iv c0_i32_1 c1_i32 k0_t1
  let c8_i32 : BitVec 32 := 8#32
  let v123 : BitVec 32 := Scalar.muli arg5 c8_i32
  let v124 : BitVec 32 := v123
  let v762 : Index := Scalar.indexCast v124
  let c896 : Index := 896#32
  ![v762.toNat, 896]
def k0_cond2 (i : grid0.Coords) : BitVec 1 :=
  let arg0 : BitVec 32 := BitVec.ofNat 32 (i 0).val
  let c15_i32 : BitVec 32 := 15#32
  let v120 : BitVec 1 := Scalar.cmpi .eq arg0 c15_i32
  let v121 : BitVec 32 := Scalar.extui v120
  let c0_i32_98 : BitVec 32 := 0#32
  let v122 : BitVec 1 := Scalar.cmpi .ne v121 c0_i32_98
  v122

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S_ : Shape := ⟨0, ![]⟩
abbrev S16384000 : Shape := ⟨1, ![16384000]⟩
abbrev S10 : Shape := ⟨1, ![10]⟩
abbrev S16384000x1 : Shape := ⟨2, ![16384000, 1]⟩
abbrev S16384x1000x1 : Shape := ⟨3, ![16384, 1000, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S16384x1000, .f32⟩
  | .hbm, ⟨4, _⟩ => ⟨S_, .f32⟩
  | .hbm, ⟨5, _⟩ => ⟨S16384x1000, .f32⟩
  | .hbm, ⟨6, _⟩ => ⟨S16384x1000, .f32⟩
  | .hbm, ⟨7, _⟩ => ⟨S16384x1000, .f32⟩
  | .hbm, ⟨8, _⟩ => ⟨S16384x1000, .i32⟩
  | .hbm, ⟨9, _⟩ => ⟨S16384000, .i32⟩
  | .hbm, ⟨10, _⟩ => ⟨S_, .i32⟩
  | .hbm, ⟨11, _⟩ => ⟨S10, .i32⟩
  | .hbm, ⟨12, _⟩ => ⟨S_, .i32⟩
  | .hbm, ⟨13, _⟩ => ⟨S_, .i32⟩
  | .hbm, ⟨14, _⟩ => ⟨S16384000, .i32⟩
  | .hbm, ⟨15, _⟩ => ⟨S16384000, .i32⟩
  | .hbm, ⟨16, _⟩ => ⟨S_, .i32⟩
  | .hbm, ⟨17, _⟩ => ⟨S16384000, .i32⟩
  | .hbm, ⟨18, _⟩ => ⟨S16384000, .i1⟩
  | .hbm, ⟨19, _⟩ => ⟨S_, .i32⟩
  | .hbm, ⟨20, _⟩ => ⟨S16384000, .i32⟩
  | .hbm, ⟨21, _⟩ => ⟨S16384000, .i32⟩
  | .hbm, ⟨22, _⟩ => ⟨S16384000, .i32⟩
  | .hbm, ⟨23, _⟩ => ⟨S16384000x1, .i32⟩
  | .hbm, ⟨24, _⟩ => ⟨S_, .i32⟩
  | .hbm, ⟨25, _⟩ => ⟨S16384000, .i32⟩
  | .hbm, ⟨26, _⟩ => ⟨S10, .i32⟩
  | .hbm, ⟨27, _⟩ => ⟨S10, .f32⟩
  | .hbm, ⟨28, _⟩ => ⟨S_, .f32⟩
  | .hbm, ⟨29, _⟩ => ⟨S10, .f32⟩
  | .hbm, ⟨30, _⟩ => ⟨S10, .i1⟩
  | .hbm, ⟨31, _⟩ => ⟨S10, .i32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S10, .f32⟩
  | .hbm, ⟨36, _⟩ => ⟨S10, .f32⟩
  | .hbm, ⟨37, _⟩ => ⟨S_, .f32⟩
  | .hbm, ⟨38, _⟩ => ⟨S10, .f32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S10, .f32⟩
  | .hbm, ⟨43, _⟩ => ⟨S16384x1000, .f32⟩
  | .hbm, ⟨44, _⟩ => ⟨S16384x1000, .f32⟩
  | .hbm, ⟨45, _⟩ => ⟨S_, .f32⟩
  | .hbm, ⟨46, _⟩ => ⟨S16384x1000, .f32⟩
  | .hbm, ⟨47, _⟩ => ⟨S16384x1000, .f32⟩
  | .hbm, ⟨48, _⟩ => ⟨S_, .f32⟩
  | .hbm, ⟨49, _⟩ => ⟨S16384x1000, .f32⟩
  | .hbm, ⟨50, _⟩ => ⟨S16384x1000, .f32⟩
  | .hbm, ⟨51, _⟩ => ⟨S16384x1000, .f32⟩
  | .hbm, ⟨52, _⟩ => ⟨S16384x1000, .f32⟩
  | .hbm, ⟨53, _⟩ => ⟨S16384x1000, .f32⟩
  | .hbm, ⟨54, _⟩ => ⟨S16384x1000, .f32⟩
  | .hbm, ⟨55, _⟩ => ⟨S_, .i32⟩
  | .hbm, ⟨56, _⟩ => ⟨S16384x1000, .i32⟩
  | .hbm, ⟨57, _⟩ => ⟨S16384x1000, .i1⟩
  | .hbm, ⟨58, _⟩ => ⟨S_, .i32⟩
  | .hbm, ⟨59, _⟩ => ⟨S16384x1000, .i32⟩
  | .hbm, ⟨60, _⟩ => ⟨S16384x1000, .i32⟩
  | .hbm, ⟨61, _⟩ => ⟨S16384x1000, .i32⟩
  | .hbm, ⟨62, _⟩ => ⟨S16384x1000x1, .i32⟩
  | .hbm, ⟨63, _⟩ => ⟨S16384x1000, .f32⟩
  | .hbm, ⟨64, _⟩ => ⟨S16384x1000, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_c_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Proof.Trip.lean ====
/-
  One trip of the body's counted loop, as eight equal steps: each step takes an 8 × 128 chunk of the predictions and
  of the targets and adds its nine masked sums, its nine counts and its total to the nineteen carried accumulators.
-/
module

public import proofs.«01_k».proof.Proof.Gen.KernelIdeal.Loops

@[expose] public section

set_option maxRecDepth 16384

noncomputable section

namespace Cert.KernelIdeal.Hist

open Cert.KernelIdeal Cert.KernelIdeal.Gen
open Idealize.ShloMosaic Idealize.ShloMosaic.TcCoe Idealize.SL.Sem

variable {F : FTy → Type} [FloatOps F]

/-- The nineteen accumulators that the loop carries. -/
abbrev Acc (F : FTy → Type) [FloatOps F] : Type :=
  FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32

/-- The bin of each element of a chunk, as a float: the floor of the scaled distance. -/
def binOf (x t : FVec F S8x128 .f32) : FVec F S8x128 .f32 :=
  floor (mulf (absf (subf x t)) (broadcast S8x128 (Scalar.ofBits .f32 0x411FFF97#32)))

/-- The logarithm of one minus the prediction. -/
def log1m (x : FVec F S8x128 .f32) : FVec F S8x128 .f32 :=
  log (subf (broadcast S8x128 (Scalar.ofBits .f32 0x3F800000#32)) x)

/-- The negated loss of each element of a chunk. -/
def nloss (x t : FVec F S8x128 .f32) : FVec F S8x128 .f32 :=
  addf (mulf t (subf (log x) (log1m x))) (log1m x)

/-- One at the elements whose bin is the number with bits `w`, zero elsewhere. -/
def binMask (w : BitVec 32) (x t : FVec F S8x128 .f32) : FVec F S8x128 .f32 :=
  select (cmpf .oeq (binOf x t) (broadcast S8x128 (Scalar.ofBits .f32 w)))
    (broadcast S8x128 (Scalar.ofBits .f32 0x3F800000#32)) (broadcast S8x128 (Scalar.ofBits .f32 0x00000000#32))

/-- One chunk added to the accumulators. -/
def chunkStep (x t : FVec F S8x128 .f32) (a : Acc F) : Acc F :=
  (addf a.1 (mulf (binMask 0x3F800000#32 x t) (nloss x t)),
   addf a.2.1 (mulf (binMask 0x40000000#32 x t) (nloss x t)),
   addf a.2.2.1 (mulf (binMask 0x40400000#32 x t) (nloss x t)),
   addf a.2.2.2.1 (mulf (binMask 0x40800000#32 x t) (nloss x t)),
   addf a.2.2.2.2.1 (mulf (binMask 0x40A00000#32 x t) (nloss x t)),
   addf a.2.2.2.2.2.1 (mulf (binMask 0x40C00000#32 x t) (nloss x t)),
   addf a.2.2.2.2.2.2.1 (mulf (binMask 0x40E00000#32 x t) (nloss x t)),
   addf a.2.2.2.2.2.2.2.1 (mulf (binMask 0x41000000#32 x t) (nloss x t)),
   addf a.2.2.2.2.2.2.2.2.1 (mulf (binMask 0x41100000#32 x t) (nloss x t)),
   addf a.2.2.2.2.2.2.2.2.2.1 (binMask 0x3F800000#32 x t),
   addf a.2.2.2.2.2.2.2.2.2.2.1 (binMask 0x40000000#32 x t),
   addf a.2.2.2.2.2.2.2.2.2.2.2.1 (binMask 0x40400000#32 x t),
   addf a.2.2.2.2.2.2.2.2.2.2.2.2.1 (binMask 0x40800000#32 x t),
   addf a.2.2.2.2.2.2.2.2.2.2.2.2.2.1 (binMask 0x40A00000#32 x t),
   addf a.2.2.2.2.2.2.2.2.2.2.2.2.2.2.1 (binMask 0x40C00000#32 x t),
   addf a.2.2.2.2.2.2.2.2.2.2.2.2.2.2.2.1 (binMask 0x40E00000#32 x t),
   addf a.2.2.2.2.2.2.2.2.2.2.2.2.2.2.2.2.1 (binMask 0x41000000#32 x t),
   addf a.2.2.2.2.2.2.2.2.2.2.2.2.2.2.2.2.2.1 (binMask 0x41100000#32 x t),
   addf a.2.2.2.2.2.2.2.2.2.2.2.2.2.2.2.2.2.2 (nloss x t))

/-- One trip of the loop is eight chunk steps. -/
theorem trip_eq (𝒱 : Variants) (c : Dev nD) (bd : Option 𝒱.V) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (X_arg1 : BufTy.Contents (Elt F) arg1.view.ty) (X_arg2 : BufTy.Contents (Elt F) arg2.view.ty) (k : Fin k0_t1_loop.trips) (acc : Acc F) :
    tripR_k0_t1 (F := F) 𝒱 c bd i arg1 harg1 arg2 harg2 arg3 harg3 arg4 harg4 X_arg1 X_arg2 k acc
      = chunkStep (shapeCast S8x128 (View.readAt (Elt F) arg1.view (Rect.unit (s := S1000x1024) (k0_off8 k) S8x128.size (k0_off8_inb k)).toLoadRect X_arg1) shapeCasts_S8x128_S8x128) (shapeCast S8x128 (View.readAt (Elt F) arg2.view (Rect.unit (s := S1000x1024) (k0_off8 k) S8x128.size (k0_off8_inb k)).toLoadRect X_arg2) shapeCasts_S8x128_S8x128) (chunkStep (shapeCast S8x128 (View.readAt (Elt F) arg1.view (Rect.unit (s := S1000x1024) (k0_off7 k) S8x128.size (k0_off7_inb k)).toLoadRect X_arg1) shapeCasts_S8x128_S8x128) (shapeCast S8x128 (View.readAt (Elt F) arg2.view (Rect.unit (s := S1000x1024) (k0_off7 k) S8x128.size (k0_off7_inb k)).toLoadRect X_arg2) shapeCasts_S8x128_S8x128) (chunkStep (shapeCast S8x128 (View.readAt (Elt F) arg1.view (Rect.unit (s := S1000x1024) (k0_off6 k) S8x128.size (k0_off6_inb k)).toLoadRect X_arg1) shapeCasts_S8x128_S8x128) (shapeCast S8x128 (View.readAt (Elt F) arg2.view (Rect.unit (s := S1000x1024) (k0_off6 k) S8x128.size (k0_off6_inb k)).toLoadRect X_arg2) shapeCasts_S8x128_S8x128) (chunkStep (shapeCast S8x128 (View.readAt (Elt F) arg1.view (Rect.unit (s := S1000x1024) (k0_off5 k) S8x128.size (k0_off5_inb k)).toLoadRect X_arg1) shapeCasts_S8x128_S8x128) (shapeCast S8x128 (View.readAt (Elt F) arg2.view (Rect.unit (s := S1000x1024) (k0_off5 k) S8x128.size (k0_off5_inb k)).toLoadRect X_arg2) shapeCasts_S8x128_S8x128) (chunkStep (shapeCast S8x128 (View.readAt (Elt F) arg1.view (Rect.unit (s := S1000x1024) (k0_off4 k) S8x128.size (k0_off4_inb k)).toLoadRect X_arg1) shapeCasts_S8x128_S8x128) (shapeCast S8x128 (View.readAt (Elt F) arg2.view (Rect.unit (s := S1000x1024) (k0_off4 k) S8x128.size (k0_off4_inb k)).toLoadRect X_arg2) shapeCasts_S8x128_S8x128) (chunkStep (shapeCast S8x128 (View.readAt (Elt F) arg1.view (Rect.unit (s := S1000x1024) (k0_off3 k) S8x128.size (k0_off3_inb k)).toLoadRect X_arg1) shapeCasts_S8x128_S8x128) (shapeCast S8x128 (View.readAt (Elt F) arg2.view (Rect.unit (s := S1000x1024) (k0_off3 k) S8x128.size (k0_off3_inb k)).toLoadRect X_arg2) shapeCasts_S8x128_S8x128) (chunkStep (shapeCast S8x128 (View.readAt (Elt F) arg1.view (Rect.unit (s := S1000x1024) (k0_off2 k) S8x128.size (k0_off2_inb k)).toLoadRect X_arg1) shapeCasts_S8x128_S8x128) (shapeCast S8x128 (View.readAt (Elt F) arg2.view (Rect.unit (s := S1000x1024) (k0_off2 k) S8x128.size (k0_off2_inb k)).toLoadRect X_arg2) shapeCasts_S8x128_S8x128) (chunkStep (shapeCast S8x128 (View.readAt (Elt F) arg1.view (Rect.unit (s := S1000x1024) (k0_off1 k) S8x128.size (k0_off1_inb k)).toLoadRect X_arg1) shapeCasts_S8x128_S8x128) (shapeCast S8x128 (View.readAt (Elt F) arg2.view (Rect.unit (s := S1000x1024) (k0_off1 k) S8x128.size (k0_off1_inb k)).toLoadRect X_arg2) shapeCasts_S8x128_S8x128) acc))))))) := by
  unfold tripR_k0_t1
  unfold trip_k0_t1
  rfl

end Cert.KernelIdeal.Hist

end
-- ==== Proof.Loop.lean ====
/-
  The loop's carried accumulators at the ideal instance, element by element: after `n` trips each accumulator holds its
  initial value plus the sum, over the trips and over the eight chunks of a trip, of one function of the prediction and the target.
-/
module

public import proofs.«01_k».proof.Proof.Trip
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Hist

open Cert.KernelIdeal Cert.KernelIdeal.Gen
open Idealize.ShloMosaic Idealize.ShloMosaic.TcCoe Idealize.SL.Sem

/-- The bin of one element: the floor of the scaled distance between prediction and target. -/
def eBin (x t : EReal) : EReal := Ideal.liftRound Int.floor (max (x - t) (-(x - t)) * Ideal.ofBits .f32 0x411FFF97#32)

/-- The logarithm of one minus the prediction. -/
def eLog1m (x : EReal) : EReal := Ideal.log (Ideal.ofBits .f32 0x3F800000#32 - x)

/-- The negated loss of one element. -/
def eNl (x t : EReal) : EReal := t * (Ideal.log x - eLog1m x) + eLog1m x

/-- One where the element's bin is the number with bits `w`, zero elsewhere. -/
def eMask (w : BitVec 32) (x t : EReal) : EReal :=
  Scalar.select (Ideal.cmp .oeq (eBin x t) (Ideal.ofBits .f32 w)) (Ideal.ofBits .f32 0x3F800000#32) (Ideal.ofBits .f32 0x00000000#32)

/-- What one element adds to the accumulator of plane `p`. -/
def elt (p : Fin 19) (x t : EReal) : EReal :=
  (![eMask 0x3F800000#32 x t * eNl x t, eMask 0x40000000#32 x t * eNl x t, eMask 0x40400000#32 x t * eNl x t, eMask 0x40800000#32 x t * eNl x t, eMask 0x40A00000#32 x t * eNl x t, eMask 0x40C00000#32 x t * eNl x t, eMask 0x40E00000#32 x t * eNl x t, eMask 0x41000000#32 x t * eNl x t, eMask 0x41100000#32 x t * eNl x t, eMask 0x3F800000#32 x t, eMask 0x40000000#32 x t, eMask 0x40400000#32 x t, eMask 0x40800000#32 x t, eMask 0x40A00000#32 x t, eMask 0x40C00000#32 x t, eMask 0x40E00000#32 x t, eMask 0x41000000#32 x t, eMask 0x41100000#32 x t, eNl x t] : Fin 19 → EReal) p

/-- The accumulator of plane `p` at one position. -/
def accAt {F : FTy → Type} [FloatOps F] (a : Acc F) (p : Fin 19) (y : S8x128.Idx) : F .f32 :=
  (![a.1 y, a.2.1 y, a.2.2.1 y, a.2.2.2.1 y, a.2.2.2.2.1 y, a.2.2.2.2.2.1 y, a.2.2.2.2.2.2.1 y, a.2.2.2.2.2.2.2.1 y, a.2.2.2.2.2.2.2.2.1 y, a.2.2.2.2.2.2.2.2.2.1 y, a.2.2.2.2.2.2.2.2.2.2.1 y, a.2.2.2.2.2.2.2.2.2.2.2.1 y, a.2.2.2.2.2.2.2.2.2.2.2.2.1 y, a.2.2.2.2.2.2.2.2.2.2.2.2.2.1 y, a.2.2.2.2.2.2.2.2.2.2.2.2.2.2.1 y, a.2.2.2.2.2.2.2.2.2.2.2.2.2.2.2.1 y, a.2.2.2.2.2.2.2.2.2.2.2.2.2.2.2.2.1 y, a.2.2.2.2.2.2.2.2.2.2.2.2.2.2.2.2.2.1 y, a.2.2.2.2.2.2.2.2.2.2.2.2.2.2.2.2.2.2 y] : Fin 19 → F .f32) p

/-- A chunk step adds the element's contribution to every plane. -/
theorem accAt_chunkStep (x t : FVec Ideal S8x128 .f32) (a : Acc Ideal) (p : Fin 19) (y : S8x128.Idx) :
    accAt (chunkStep x t a) p y = (accAt a p y : EReal) + elt p (x y) (t y) := by
  fin_cases p <;> rfl

/-- The offsets of chunk 1 of trip `k`. -/
theorem off1_eq (k : Fin k0_t1_loop.trips) : k0_off1 k = ![8 * k.val, 0] := by
  revert k; decide

/-- The offsets of chunk 2 of trip `k`. -/
theorem off2_eq (k : Fin k0_t1_loop.trips) : k0_off2 k = ![8 * k.val, 128] := by
  revert k; decide

/-- The offsets of chunk 3 of trip `k`. -/
theorem off3_eq (k : Fin k0_t1_loop.trips) : k0_off3 k = ![8 * k.val, 256] := by
  revert k; decide

/-- The offsets of chunk 4 of trip `k`. -/
theorem off4_eq (k : Fin k0_t1_loop.trips) : k0_off4 k = ![8 * k.val, 384] := by
  revert k; decide

/-- The offsets of chunk 5 of trip `k`. -/
theorem off5_eq (k : Fin k0_t1_loop.trips) : k0_off5 k = ![8 * k.val, 512] := by
  revert k; decide

/-- The offsets of chunk 6 of trip `k`. -/
theorem off6_eq (k : Fin k0_t1_loop.trips) : k0_off6 k = ![8 * k.val, 640] := by
  revert k; decide

/-- The offsets of chunk 7 of trip `k`. -/
theorem off7_eq (k : Fin k0_t1_loop.trips) : k0_off7 k = ![8 * k.val, 768] := by
  revert k; decide

/-- The offsets of chunk 8 of trip `k`. -/
theorem off8_eq (k : Fin k0_t1_loop.trips) : k0_off8 k = ![8 * k.val, 896] := by
  revert k; decide

/-- The entry of a block at row `8n + r` and column `128q + l`. -/
def chunkIdx (n : Fin 125) (q : Fin 8) (y : S8x128.Idx) : S1000x1024.Idx :=
  ix2 ⟨8 * n.val + (y 0).val, by have := (y 0).isLt; simp only [S8x128, Matrix.cons_val_zero] at this; omega⟩
    ⟨128 * q.val + (y 1).val, by have := (y 1).isLt; simp only [S8x128, Matrix.cons_val_one, Matrix.cons_val_zero] at this; omega⟩

/-- The loop makes 125 trips. -/
theorem trips_eq : k0_t1_loop.trips = 125 := by decide

/-- A chunk's load at a position is the block's entry there. -/
theorem chunk_read (m : Memref sig .tc .vmem S1000x1024 .f32) (hm : m.IsWhole) (X : Vec Ideal S1000x1024 .f32)
    (n : Fin 125) (q : Fin 8) (off : Fin 2 → ℕ) (hoff : off = ![8 * n.val, 128 * q.val])
    (inb : ∀ a, off a + S8x128.size a ≤ S1000x1024.size a) (h : S8x128.ShapeCasts S8x128) (y : S8x128.Idx) :
    shapeCast S8x128 (View.readAt (Elt Ideal) m.view (Rect.unit (s := S1000x1024) off S8x128.size inb).toLoadRect (hm.unread X)) h y
      = X (chunkIdx n q y) := by
  subst hoff
  refine (congrFun (shapeCast_self (s := S8x128) _ h) y).trans ?_
  refine (Memref.IsWhole.readAt_unread hm X (Rect.unit (s := S1000x1024) ![8 * n.val, 128 * q.val] S8x128.size inb).toLoadRect y).trans ?_
  congr 1
  funext a
  apply Fin.ext
  refine (Rect.idx_unit_val _ _ _ _ a).trans ?_
  fin_cases a <;> rfl

/-- What the chunks of trip `n` add to plane `p` at position `y`. -/
def tripSum (X T : Vec Ideal S1000x1024 .f32) (p : Fin 19) (y : S8x128.Idx) (n : Fin 125) : EReal :=
  ∑ q : Fin 8, elt p (X (chunkIdx n q y)) (T (chunkIdx n q y))

/-- One trip adds its chunks' contributions. -/
theorem accAt_trip (𝒱 : Variants) (c : Dev nD) (bd : Option 𝒱.V) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (X T : Vec Ideal S1000x1024 .f32) (k : Fin k0_t1_loop.trips) (acc : Acc Ideal) (p : Fin 19) (y : S8x128.Idx) :
    accAt (tripR_k0_t1 (F := Ideal) 𝒱 c bd i arg1 harg1 arg2 harg2 arg3 harg3 arg4 harg4 (harg1.unread X) (harg2.unread T) k acc) p y
      = (accAt acc p y : EReal) + tripSum X T p y (Fin.cast trips_eq k) := by
  rw [trip_eq]
  simp only [accAt_chunkStep]
  rw [chunk_read arg1 harg1 X (Fin.cast trips_eq k) 0 _ (off1_eq k), chunk_read arg2 harg2 T (Fin.cast trips_eq k) 0 _ (off1_eq k), chunk_read arg1 harg1 X (Fin.cast trips_eq k) 1 _ (off2_eq k), chunk_read arg2 harg2 T (Fin.cast trips_eq k) 1 _ (off2_eq k), chunk_read arg1 harg1 X (Fin.cast trips_eq k) 2 _ (off3_eq k), chunk_read arg2 harg2 T (Fin.cast trips_eq k) 2 _ (off3_eq k), chunk_read arg1 harg1 X (Fin.cast trips_eq k) 3 _ (off4_eq k), chunk_read arg2 harg2 T (Fin.cast trips_eq k) 3 _ (off4_eq k), chunk_read arg1 harg1 X (Fin.cast trips_eq k) 4 _ (off5_eq k), chunk_read arg2 harg2 T (Fin.cast trips_eq k) 4 _ (off5_eq k), chunk_read arg1 harg1 X (Fin.cast trips_eq k) 5 _ (off6_eq k), chunk_read arg2 harg2 T (Fin.cast trips_eq k) 5 _ (off6_eq k), chunk_read arg1 harg1 X (Fin.cast trips_eq k) 6 _ (off7_eq k), chunk_read arg2 harg2 T (Fin.cast trips_eq k) 6 _ (off7_eq k), chunk_read arg1 harg1 X (Fin.cast trips_eq k) 7 _ (off8_eq k), chunk_read arg2 harg2 T (Fin.cast trips_eq k) 7 _ (off8_eq k)]
  simp only [tripSum, Fin.sum_univ_eight, add_assoc]

/-- After `n` trips the accumulator of plane `p` holds its initial value and the contributions of those trips. -/
theorem accAt_st (𝒱 : Variants) (c : Dev nD) (bd : Option 𝒱.V) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (X T : Vec Ideal S1000x1024 .f32) (init : Acc Ideal) (p : Fin 19) (y : S8x128.Idx) (n : ℕ) (hn : n ≤ 125) :
    accAt (st_k0_t1 (F := Ideal) 𝒱 c bd i arg1 harg1 arg2 harg2 arg3 harg3 arg4 harg4 (harg1.unread X) (harg2.unread T) init n) p y
      = (accAt init p y : EReal) + ∑ k : Fin n, tripSum X T p y (Fin.castLE hn k) := by
  induction n with
  | zero => rw [st_k0_t1_zero]; simp
  | succ n ih =>
    have h := st_k0_t1_succ (F := Ideal) 𝒱 c bd i arg1 harg1 arg2 harg2 arg3 harg3 arg4 harg4 (harg1.unread X) (harg2.unread T) init ⟨n, by rw [trips_eq]; omega⟩
    rw [Fin.sum_univ_castSucc, ← add_assoc]
    refine (congrArg (fun a => accAt a p y) h).trans ?_
    rw [accAt_trip]
    exact congrArg (· + _) (ih (by omega))

/-- The whole loop: the contributions of all trips. -/
def loopSum (X T : Vec Ideal S1000x1024 .f32) (p : Fin 19) (y : S8x128.Idx) : EReal := ∑ n : Fin 125, tripSum X T p y n

/-- The loop, run to its end from zero accumulators. -/
theorem accAt_loop (𝒱 : Variants) (c : Dev nD) (bd : Option 𝒱.V) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (X T : Vec Ideal S1000x1024 .f32) (init : Acc Ideal) (p : Fin 19) (y : S8x128.Idx) (hi : accAt init p y = (0 : EReal)) :
    accAt (st_k0_t1 (F := Ideal) 𝒱 c bd i arg1 harg1 arg2 harg2 arg3 harg3 arg4 harg4 (harg1.unread X) (harg2.unread T) init (Scf.trips 0#32 (Scalar.addi 0#32 125#32) 1#32)) p y
      = loopSum X T p y := by
  have ht : Scf.trips 0#32 (Scalar.addi 0#32 125#32) 1#32 = 125 := by decide
  rw [ht, accAt_st _ _ _ _ _ _ _ _ _ _ _ _ _ _ _ _ _ _ (le_refl 125), hi, zero_add]
  rfl

end Cert.KernelIdeal.Hist

end
-- ==== Proof.Histogram.lean ====
/-
  The reference's histogram: the scatter that adds one at each element's bin, read at a bin as the number of elements of that bin,
  and the number of bins that hold an element.
-/
module

public import proofs.«01_k».proof.Proof.Gen.ReferenceIdeal.Run
public import Idealize.ShloMosaic.Lib.Pointwise
public import Idealize.ShloMosaic.Lib.IndicatorCount
public import Idealize.ShloMosaic.Lib.IdealHost
public import Idealize.ShloMosaic.Lib.Routing.OpsPair

@[expose] public section

set_option maxRecDepth 16384

noncomputable section

namespace Cert.ReferenceIdeal.Hist

open Cert.ReferenceIdeal Cert.ReferenceIdeal.Gen
open Idealize.ShloMosaic Idealize.ShloMosaic.TcCoe

/-- Adding one for each listed item that satisfies a condition adds the number of such items. -/
theorem foldl_ite_count {ι : Type} (P : ι → Prop) [DecidablePred P] (l : List ι) (z : BitVec 32) :
    l.foldl (fun a n => if P n then IntOp.addi a 1#32 else a) z = z + BitVec.ofNat 32 (l.countP fun n => decide (P n)) := by
  induction l generalizing z with
  | nil => simp
  | cons n l ih =>
    rw [List.foldl_cons, ih, List.countP_cons]
    by_cases h : P n
    · rw [if_pos h, if_pos (decide_eq_true h), BitVec.ofNat_add, BitVec.add_comm (BitVec.ofNat 32 _), ← BitVec.add_assoc]
      rfl
    · rw [if_neg h, if_neg (by simpa using h), Nat.add_zero]

/-- Counting along the list of all positions is the size of the set of positions. -/
theorem countP_finRange_card {n : Nat} (P : Fin n → Prop) [DecidablePred P] :
    (List.finRange n).countP (fun k => decide (P k)) = (Finset.univ.filter P).card := by
  rw [List.countP_eq_length_filter]
  rfl

/-- An update of the scatter lands at bin `x` exactly when its index word, read signed, is `x`. -/
theorem scatter_hits (idx : IVec S16384000x1 32) (u : S16384000.Idx) (x : Fin 10) :
    scatter_S10_S16384000x1_S16384000_n_0_0_1.resultIdx? u idx = some (ix1 x) ↔ (idx (ix2 (u 0) (0 : Fin 1))).toInt = (x.val : Int) := by
  have hw : scatter_S10_S16384000x1_S16384000_n_0_0_1.window u 0 = 0 := rfl
  have hs : scatter_S10_S16384000x1_S16384000_n_0_0_1.start u idx 0 = (idx (ix2 (u 0) (0 : Fin 1))).toInt := by
    refine congrArg (fun q => (idx q).toInt) (funext fun b => Fin.ext ?_)
    match b with
    | ⟨0, _⟩ => rfl
    | ⟨1, _⟩ => rfl
  have hx := x.isLt
  unfold ScatterDims.resultIdx?
  by_cases e : (idx (ix2 (u 0) (0 : Fin 1))).toInt = (x.val : Int)
  · refine iff_of_true ?_ e
    rw [dif_pos]
    · refine congrArg some (funext fun a => Fin.ext ?_)
      obtain rfl : a = 0 := Subsingleton.elim _ _
      show (scatter_S10_S16384000x1_S16384000_n_0_0_1.start u idx 0 + ((scatter_S10_S16384000x1_S16384000_n_0_0_1.window u 0 : Nat) : Int)).toNat = x.val
      rw [hw, hs, e]
      omega
    · intro a
      obtain rfl : a = 0 := Subsingleton.elim _ _
      rw [hw, hs, e]
      show (0 : Int) ≤ x.val + (0 : Nat) ∧ (x.val : Int) + (0 : Nat) < (10 : Nat)
      omega
  · refine iff_of_false (fun h => e ?_) e
    split at h
    · next hin =>
      have h1 := congrArg Fin.val (congrFun (Option.some.inj h) 0)
      have h2 := (hin 0).1
      change (scatter_S10_S16384000x1_S16384000_n_0_0_1.start u idx 0 + ((scatter_S10_S16384000x1_S16384000_n_0_0_1.window u 0 : Nat) : Int)).toNat = x.val at h1
      rw [hw, hs] at h1 h2
      omega
    · cases h

/-- The reference's bins, flattened, as the scatter's indices: clipped from below, then a negative one wrapped. -/
def scatterIdx (v5 : IVec S16384x1000 32) : IVec S16384000x1 32 :=
  broadcastInDim S16384000x1 ![0] bcast_S16384000_S16384000x1_0 (select (cmpi .slt (maxsi (broadcastInDim S16384000 ![] bcast_S_S16384000 (id (constantI S_ 32 0#32))) (shapeCast _ v5 shapeCasts_S16384x1000_S16384000)) (broadcastInDim S16384000 ![] bcast_S_S16384000 (constantI S_ 32 0#32))) (addi (maxsi (broadcastInDim S16384000 ![] bcast_S_S16384000 (id (constantI S_ 32 0#32))) (shapeCast _ v5 shapeCasts_S16384x1000_S16384000)) (broadcastInDim S16384000 ![] bcast_S_S16384000 (constantI S_ 32 10#32))) (maxsi (broadcastInDim S16384000 ![] bcast_S_S16384000 (id (constantI S_ 32 0#32))) (shapeCast _ v5 shapeCasts_S16384x1000_S16384000)))

/-- The reference's histogram of the bins. -/
def hist (v5 : IVec S16384x1000 32) : IVec S10 32 :=
  Host.scatter scatter_S10_S16384000x1_S16384000_n_0_0_1 IntOp.addi (broadcastInDim S10 ![] bcast_S_S10 (constantI S_ 32 0#32)) (scatterIdx v5) (broadcastInDim S16384000 ![] bcast_S_S16384000 (constantI S_ 32 1#32))

/-- A word that is a bin number is left by the clip and the wrap. -/
theorem clip_wrap (k : Fin 10) :
    Scalar.select (IntOp.cmpi .slt (IntOp.maxsi 0#32 (BitVec.ofNat 32 k.val)) 0#32) (IntOp.addi (IntOp.maxsi 0#32 (BitVec.ofNat 32 k.val)) 10#32)
      (IntOp.maxsi 0#32 (BitVec.ofNat 32 k.val)) = BitVec.ofNat 32 k.val := by
  revert k; decide

/-- A bin number's word, read signed, is the bin number. -/
theorem toInt_bin (k : Fin 10) : (BitVec.ofNat 32 k.val).toInt = (k.val : Int) := by
  revert k; decide

/-- The scatter's index at a flat position is the bin of the element at that position. -/
theorem scatterIdx_at (v5 : IVec S16384x1000 32) (b : S16384x1000.Idx → Fin 10) (hb : ∀ y, v5 y = BitVec.ofNat 32 (b y).val) (u : S16384000.Idx) :
    scatterIdx v5 (ix2 (u 0) (0 : Fin 1)) = BitVec.ofNat 32 (b (Shape.reshapeEquiv shapeCasts_S16384x1000_S16384000 u)).val := by
  refine Eq.trans ?_ (clip_wrap _)
  rw [← hb]
  unfold scatterIdx
  generalize hg : select (cmpi .slt (maxsi (broadcastInDim S16384000 ![] bcast_S_S16384000 (id (constantI S_ 32 0#32))) (shapeCast _ v5 shapeCasts_S16384x1000_S16384000)) (broadcastInDim S16384000 ![] bcast_S_S16384000 (constantI S_ 32 0#32))) _ _ = g
  have e : broadcastInDim S16384000x1 ![0] bcast_S16384000_S16384000x1_0 g (ix2 (u 0) (0 : Fin 1)) = g u := by
    refine congrArg g (funext fun a => Fin.ext ?_)
    obtain rfl : a = 0 := Subsingleton.elim _ _
    rfl
  rw [e, ← hg]
  rfl

/-- The histogram at a bin is the number of elements of that bin. -/
theorem hist_at (v5 : IVec S16384x1000 32) (b : S16384x1000.Idx → Fin 10) (hb : ∀ y, v5 y = BitVec.ofNat 32 (b y).val) (k : Fin 10) :
    hist v5 (ix1 k) = BitVec.ofNat 32 (Finset.univ.filter fun y => b y = k).card := by
  have hk : ∀ u : S16384000.Idx, scatter_S10_S16384000x1_S16384000_n_0_0_1.resultIdx? u (scatterIdx v5) = some (ix1 k) ↔
      b (Shape.reshapeEquiv shapeCasts_S16384x1000_S16384000 u) = k := fun u => by
    rw [scatter_hits, scatterIdx_at v5 b hb, toInt_bin, Fin.ext_iff]
    exact Int.ofNat_inj
  unfold hist
  rw [Routing.scatter_at]
  refine Eq.trans (b := (List.finRange S16384000.numel).foldl (fun a n => if b (Shape.reshapeEquiv shapeCasts_S16384x1000_S16384000 (S16384000.rowMajor.symm n)) = k then IntOp.addi a 1#32 else a) 0#32) ?_ ?_
  · refine congrArg (fun f => List.foldl f 0#32 (List.finRange S16384000.numel)) (funext fun a => funext fun n => ?_)
    exact if_congr (hk _) rfl rfl
  · rw [foldl_ite_count, countP_finRange_card, BitVec.zero_add]
    refine congrArg (BitVec.ofNat 32) ?_
    exact Finset.card_equiv (S16384000.rowMajor.symm.trans (Shape.reshapeEquiv shapeCasts_S16384x1000_S16384000)) (fun n => by
      simp only [Finset.mem_filter, Finset.mem_univ, true_and]
      exact Iff.rfl)

/-- The number of elements of the arrays. -/
theorem card_idx : Fintype.card S16384x1000.Idx = 16384000 := by
  rw [Fintype.card_congr S16384x1000.rowMajor, Fintype.card_fin]
  rfl

/-- A bin holds at most all the elements. -/
theorem card_bin_le (b : S16384x1000.Idx → Fin 10) (k : Fin 10) : (Finset.univ.filter fun y => b y = k).card ≤ 16384000 :=
  (Finset.card_le_univ _).trans card_idx.le

/-- The number of elements of a bin, as an ideal float. -/
theorem sitofp_count {n : ℕ} (h : n ≤ 16384000) : ((((BitVec.ofNat 32 n).toInt : ℤ) : ℝ) : EReal) = ((n : ℝ) : EReal) := by
  rw [StableHlo.Predicate.toInt_ofNat_small _ (by omega), Int.cast_natCast]

/-- The number of the bins that hold an element, as the reference counts them. -/
def filled (h : IVec S10 32) : IVec S_ 32 :=
  Host.reduce IntOp.addi (extui 32 (cmpf .ogt (sitofp (F := Ideal) .f32 h : (⟨S10, .f32⟩ : BufTy).Contents (Elt Ideal)) (broadcastInDim S10 ![] bcast_S_S10 (constant S_ .f32 0x00000000#32))) natLt_1_32) (constantI S_ 32 0#32) reducesTo_S10_S_d0 h_S_

/-- The reference's count of the bins that hold an element is the number of the bins that hold one. -/
theorem filled_eq (h : IVec S10 32) (n : Fin 10 → ℕ) (hn : ∀ k, n k ≤ 16384000) (hh : ∀ k, h (ix1 k) = BitVec.ofNat 32 (n k)) (j : S_.Idx) :
    filled h j = BitVec.ofNat 32 (Finset.univ.filter fun k => 0 < n k).card := by
  unfold filled
  rw [Host.reduce_eq_fold, Shape.ReducesTo.fold_fiber_r1_a0]
  refine (IndicatorCount.fold_addi_setWidth_eq_card _ _).trans ?_
  refine congrArg (fun s : Finset (Fin 10) => BitVec.ofNat 32 s.card) (Finset.filter_congr fun k _ => ?_)
  show Ideal.cmp .ogt ((((h (ix1 k)).toInt : ℤ) : ℝ) : EReal) (Ideal.ofBits .f32 0x00000000#32) = 1#1 ↔ _
  rw [hh, sitofp_count (hn k), Ideal.ofBits_zero_f32]
  by_cases h0 : 0 < n k <;> simp [Ideal.cmp, h0]

/-- The weight of each bin, from the histogram. -/
def weights (h : IVec S10 32) : Vec Ideal S10 .f32 :=
  Host.divf (F := Ideal) (broadcastInDim S10 ![] bcast_S_S10 (constant S_ .f32 0x4B7A0000#32)) (maximumf (F := Ideal) (mulf (F := Ideal) (sitofp .f32 h) (broadcastInDim S10 ![] bcast_S_S10 (sitofp .f32 (filled h)))) (broadcastInDim S10 ![] bcast_S_S10 (constant S_ .f32 0x3F800000#32)))

/-- The loss of each element. -/
def losses (X T : Vec Ideal S16384x1000 .f32) : Vec Ideal S16384x1000 .f32 :=
  Host.negf (F := Ideal) (addf (F := Ideal) (mulf (F := Ideal) T (Host.log X)) (mulf (F := Ideal) (subf (broadcastInDim S16384x1000 ![] bcast_S_S16384x1000 (constant S_ .f32 0x3F800000#32)) T) (Host.log (F := Ideal) (subf (F := Ideal) (broadcastInDim S16384x1000 ![] bcast_S_S16384x1000 (constant S_ .f32 0x3F800000#32)) X))))

/-- The bin of each element, as a word. -/
def bins (X T : Vec Ideal S16384x1000 .f32) : IVec S16384x1000 32 :=
  fptosi (F := Ideal) (φ := .f32) 32 (Host.floor (F := Ideal) (mulf (F := Ideal) (Host.absf (F := Ideal) (subf (F := Ideal) X T)) (broadcastInDim S16384x1000 ![] bcast_S_S16384x1000 (constant S_ .f32 0x411FFF97#32))))

/-- The gather's indices: the bins, a negative one wrapped. -/
def gatherIdx (v5 : IVec S16384x1000 32) : IVec S16384x1000x1 32 :=
  broadcastInDim S16384x1000x1 ![0, 1] bcast_S16384x1000_S16384x1000x1_0_1 (select (cmpi .slt v5 (broadcastInDim S16384x1000 ![] bcast_S_S16384x1000 (constantI S_ 32 0#32))) (addi v5 (broadcastInDim S16384x1000 ![] bcast_S_S16384x1000 (constantI S_ 32 10#32))) v5)

/-- The reference's result as the composition of its parts. -/
theorem res_parts (m : (ℓ : Loc nD τ sig) → Buf (Elt Ideal) ℓ) (c : Dev nD) :
    Value.res_main_v48 m c = Host.divf (F := Ideal) (Host.reduceAdd (F := Ideal) (φ := .f32) (mulf (F := Ideal) (losses (m ((c.tc : Thread nD τ).loc main_arg0)) (m ((c.tc : Thread nD τ).loc main_arg1))) (Host.gather gather_S10_S16384x1000x1_S16384x1000_n_0_n_n_0_2_1 (weights (hist (bins (m ((c.tc : Thread nD τ).loc main_arg0)) (m ((c.tc : Thread nD τ).loc main_arg1))))) (gatherIdx (bins (m ((c.tc : Thread nD τ).loc main_arg0)) (m ((c.tc : Thread nD τ).loc main_arg1)))))) (constant S_ .f32 0x00000000#32) reducesTo_S16384x1000_S_d0_1 h_S_) (constant S_ .f32 0x4B7A0000#32) := rfl

/-- A bin number's word is left by the wrap. -/
theorem wrap_bin (k : Fin 10) :
    Scalar.select (IntOp.cmpi .slt (BitVec.ofNat 32 k.val) 0#32) (IntOp.addi (BitVec.ofNat 32 k.val) 10#32) (BitVec.ofNat 32 k.val) = BitVec.ofNat 32 k.val := by
  revert k; decide

/-- The gathered weight of an element is the weight of its bin. -/
theorem gather_at (w : Vec Ideal S10 .f32) (v5 : IVec S16384x1000 32) (b : S16384x1000.Idx → Fin 10) (hb : ∀ y, v5 y = BitVec.ofNat 32 (b y).val)
    (y : S16384x1000.Idx) :
    Host.gather gather_S10_S16384x1000x1_S16384x1000_n_0_n_n_0_2_1 w (gatherIdx v5) y = w (ix1 (b y)) := by
  have e : gatherIdx v5 (ValueIdx.takeIdx y) = BitVec.ofNat 32 (b y).val := by
    refine Eq.trans ?_ (wrap_bin _)
    rw [← hb]
    unfold gatherIdx
    generalize hg : select (cmpi .slt v5 (broadcastInDim S16384x1000 ![] bcast_S_S16384x1000 (constantI S_ 32 0#32))) _ _ = g
    have e : broadcastInDim S16384x1000x1 ![0, 1] bcast_S16384x1000_S16384x1000x1_0_1 g (ValueIdx.takeIdx y) = g y := by
      refine congrArg g (funext fun a => Fin.ext ?_)
      match a with
      | ⟨0, _⟩ => rfl
      | ⟨1, _⟩ => rfl
    rw [e, ← hg]
    rfl
  refine (ValueIdx.gather_take_apply (N := 10) (by decide) gather_S10_S16384x1000x1_S16384x1000_n_0_n_n_0_2_1_wf w (gatherIdx v5) y).trans ?_
  refine congrArg w (funext fun a => Fin.ext ?_)
  obtain rfl : a = 0 := Subsingleton.elim _ _
  show min (gatherIdx v5 (ValueIdx.takeIdx y)).toInt.toNat (10 - 1) = (b y).val
  rw [e, toInt_bin]
  have := (b y).isLt
  omega

/-- The number of elements of a bin. -/
def inBin (b : S16384x1000.Idx → Fin 10) (k : Fin 10) : ℕ := (Finset.univ.filter fun y => b y = k).card

/-- The number of bins that hold an element. -/
def full (b : S16384x1000.Idx → Fin 10) : ℕ := (Finset.univ.filter fun k => 0 < inBin b k).card

/-- The weight of a bin. -/
def weight (b : S16384x1000.Idx → Fin 10) (k : Fin 10) : EReal :=
  Ideal.div (Ideal.ofBits .f32 0x4B7A0000#32) (max (((inBin b k : ℝ) : EReal) * ((full b : ℝ) : EReal)) (Ideal.ofBits .f32 0x3F800000#32))

/-- The loss of one element. -/
def loss (x t : EReal) : EReal :=
  -(t * Ideal.log x + (Ideal.ofBits .f32 0x3F800000#32 - t) * Ideal.log (Ideal.ofBits .f32 0x3F800000#32 - x))

/-- The reference's weights at a bin. -/
theorem weights_at (v5 : IVec S16384x1000 32) (b : S16384x1000.Idx → Fin 10) (hb : ∀ y, v5 y = BitVec.ofNat 32 (b y).val) (k : Fin 10) :
    weights (hist v5) (ix1 k) = weight b k := by
  show Ideal.div (Ideal.ofBits .f32 0x4B7A0000#32) (max (((((hist v5 (ix1 k)).toInt : ℤ) : ℝ) : EReal) * ((((filled (hist v5) (fun a => a.elim0)).toInt : ℤ) : ℝ) : EReal)) (Ideal.ofBits .f32 0x3F800000#32)) = _
  rw [filled_eq (hist v5) (inBin b) (card_bin_le b) (hist_at v5 b hb), hist_at v5 b hb, sitofp_count (card_bin_le b k),
    sitofp_count ((Finset.card_le_univ _).trans (by rw [Fintype.card_fin]; decide))]
  rfl

/-- The reference's result, when every element's bin is a bin number: the weighted losses' sum divided by the number of elements. -/
theorem res_eq (m : (ℓ : Loc nD τ sig) → Buf (Elt Ideal) ℓ) (c : Dev nD) (X T : Vec Ideal S16384x1000 .f32)
    (hX : m ((c.tc : Thread nD τ).loc main_arg0) = X) (hT : m ((c.tc : Thread nD τ).loc main_arg1) = T)
    (b : S16384x1000.Idx → Fin 10) (hb : ∀ y, bins X T y = BitVec.ofNat 32 (b y).val) :
    Value.res_main_v48 m c = fun _ => Ideal.div (∑ i : Fin 16384, ∑ j : Fin 1000, loss (X (ix2 i j)) (T (ix2 i j)) * weight b (b (ix2 i j))) (Ideal.ofBits .f32 0x4B7A0000#32) := by
  rw [res_parts, hX, hT]
  funext z
  refine congrArg (fun q => Ideal.div q (Ideal.ofBits .f32 0x4B7A0000#32)) ?_
  refine (Ideal.hostReduceAdd_r2_a01 reducesTo_S16384x1000_S_d0_1 _ _ z).trans ?_
  refine (congrArg (· + _) Ideal.ofBits_zero_f32).trans ((zero_add _).trans ?_)
  refine Finset.sum_congr rfl fun i _ => Finset.sum_congr rfl fun j _ => ?_
  refine congrArg₂ (· * ·) rfl ?_
  rw [gather_at _ _ b hb]
  exact weights_at _ b hb _

end Cert.ReferenceIdeal.Hist
-- ==== Proof.Element.lean ====
/-
  One element's contribution over the reals: with a prediction strictly between zero and one and a target from zero to one, the bin is one
  of the ten bin numbers, and the loss is a real number.
-/
module

public import proofs.«01_k».proof.Proof.Loop
public import proofs.«01_k».proof.Proof.Histogram

@[expose] public section

set_option maxRecDepth 16384

noncomputable section

namespace Cert.Equation

open Idealize.ShloMosaic
open Cert.KernelIdeal.Hist (eBin eLog1m eNl eMask)

/-- The scale of the distance. -/
def scale : ℝ := 10485655 / 1048576

/-- The scale's bits. -/
theorem bits_scale : Ideal.ofBits .f32 0x411FFF97#32 = ((scale : ℝ) : EReal) := by
  unfold scale
  simp [Ideal.ofBits, Ideal.ieee, -EReal.coe_mul]; norm_num

/-- The bits of the number of elements. -/
theorem bits_total : Ideal.ofBits .f32 0x4B7A0000#32 = ((16384000 : ℝ) : EReal) := by
  simp [Ideal.ofBits, Ideal.ieee, -EReal.coe_mul] <;> norm_num

/-- The bits of one. -/
theorem bits_one : Ideal.ofBits .f32 0x3F800000#32 = ((1 : ℝ) : EReal) := by
  simp [Ideal.ofBits, Ideal.ieee, -EReal.coe_mul]; norm_num

/-- The bits of the bin numbers from one to nine. -/
theorem bits_bin (p : Fin 9) : Ideal.ofBits .f32 ((![0x3F800000#32, 0x40000000#32, 0x40400000#32, 0x40800000#32, 0x40A00000#32, 0x40C00000#32, 0x40E00000#32, 0x41000000#32, 0x41100000#32] : Fin 9 → BitVec 32) p)
    = (((p.val + 1 : ℕ) : ℝ) : EReal) := by
  fin_cases p <;> simp [Ideal.ofBits, Ideal.ieee, -EReal.coe_mul] <;> norm_num

/-- The bin number of an element. -/
def binNo (x t : EReal) : Fin 10 := Fin.ofNat 10 ⌊|x.toReal - t.toReal| * scale⌋.toNat

/-- The scaled distance of a prediction and a target between zero and one lies from zero to below ten. -/
theorem floor_range {a b : ℝ} (ha : 0 < a) (ha' : a < 1) (hb : 0 ≤ b) (hb' : b ≤ 1) :
    0 ≤ ⌊|a - b| * scale⌋ ∧ ⌊|a - b| * scale⌋ < 10 := by
  have h0 : 0 ≤ |a - b| := abs_nonneg _
  have h1 : |a - b| ≤ 1 := abs_le.2 ⟨by linarith, by linarith⟩
  refine ⟨Int.floor_nonneg.2 (mul_nonneg h0 (by unfold scale; norm_num)), Int.floor_lt.2 ?_⟩
  unfold scale
  push_cast
  nlinarith

/-- The floor of the scaled distance is the bin number. -/
theorem binNo_floor {a b : ℝ} (ha : 0 < a) (ha' : a < 1) (hb : 0 ≤ b) (hb' : b ≤ 1) :
    ⌊|a - b| * scale⌋ = ((binNo a b).val : ℤ) := by
  obtain ⟨h0, h1⟩ := floor_range ha ha' hb hb'
  unfold binNo
  simp only [EReal.toReal_coe, Fin.val_ofNat]
  omega

/-- The kernel's bin of an element is its bin number. -/
theorem eBin_eq {a b : ℝ} (ha : 0 < a) (ha' : a < 1) (hb : 0 ≤ b) (hb' : b ≤ 1) :
    eBin a b = (((binNo a b).val : ℝ) : EReal) := by
  have hm : max ((a : EReal) - b) (-((a : EReal) - b)) = ((|a - b| : ℝ) : EReal) := by
    rw [← EReal.coe_sub, ← EReal.coe_neg, abs_eq_max_neg]
    exact (EReal.coe_strictMono.monotone.map_max).symm
  unfold eBin
  rw [hm, bits_scale, ← EReal.coe_mul, Ideal.liftRound_coe, binNo_floor ha ha' hb hb', Int.cast_natCast]

/-- A bin number, as the reference converts it to a word. -/
theorem fptosi_bin (k : Fin 10) : Ideal.fptosi 32 ((k.val : ℝ) : EReal) = BitVec.ofNat 32 k.val := by
  unfold Ideal.fptosi
  rw [Ideal.toIntClamped_coe, if_pos (Nat.cast_nonneg _), Int.floor_natCast]
  revert k; decide

/-- The mask of a bin from one to nine. -/
theorem eMask_eq {a b : ℝ} (ha : 0 < a) (ha' : a < 1) (hb : 0 ≤ b) (hb' : b ≤ 1) (p : Fin 9) :
    eMask ((![0x3F800000#32, 0x40000000#32, 0x40400000#32, 0x40800000#32, 0x40A00000#32, 0x40C00000#32, 0x40E00000#32, 0x41000000#32, 0x41100000#32] : Fin 9 → BitVec 32) p) a b
      = ((if binNo a b = p.succ then (1 : ℝ) else 0 : ℝ) : EReal) := by
  unfold eMask
  rw [eBin_eq ha ha' hb hb', bits_bin, bits_one, Ideal.ofBits_zero_f32]
  have hiff : ((((binNo a b).val : ℝ) : EReal) = (((p.val + 1 : ℕ) : ℝ) : EReal)) ↔ binNo a b = p.succ := by
    rw [EReal.coe_eq_coe_iff, Nat.cast_inj, Fin.ext_iff, Fin.val_succ]
  by_cases h : binNo a b = p.succ
  · rw [if_pos h]
    simp [Ideal.cmp, hiff.2 h, Scalar.select]
  · rw [if_neg h]
    have h' := mt hiff.1 h
    simp only [Ideal.cmp, h', Scalar.select]
    simp

/-- The negated loss of an element, a real number. -/
def nl (x t : EReal) : ℝ := t.toReal * (Real.log x.toReal - Real.log (1 - x.toReal)) + Real.log (1 - x.toReal)

/-- The kernel's negated loss is that real number. -/
theorem eNl_eq {a : ℝ} (b : ℝ) (ha : 0 < a) (ha' : a < 1) : eNl a b = ((nl a b : ℝ) : EReal) := by
  have h1 : eLog1m a = ((Real.log (1 - a) : ℝ) : EReal) := by
    unfold eLog1m
    rw [bits_one, ← EReal.coe_sub, Ideal.log_coe, if_neg (by linarith)]
  unfold eNl nl
  rw [h1, Ideal.log_coe, if_neg (by linarith), ← EReal.coe_sub, ← EReal.coe_mul, ← EReal.coe_add]
  rfl

/-- The reference's loss is its negation. -/
theorem loss_eq {a : ℝ} (b : ℝ) (ha : 0 < a) (ha' : a < 1) : Cert.ReferenceIdeal.Hist.loss a b = ((-nl a b : ℝ) : EReal) := by
  unfold Cert.ReferenceIdeal.Hist.loss nl
  rw [bits_one, ← EReal.coe_sub, ← EReal.coe_sub, Ideal.log_coe, Ideal.log_coe, if_neg (by linarith), if_neg (by linarith),
    ← EReal.coe_mul, ← EReal.coe_mul, ← EReal.coe_add, ← EReal.coe_neg]
  refine congrArg _ ?_
  simp only [EReal.toReal_coe]
  ring

end Cert.Equation

end
-- ==== Proof.Scratch.lean ====
/-
  What one grid point leaves in the scratch planes, at the ideal instance: each plane's element gains the loop's sum.
-/
module

public import proofs.«01_k».proof.Proof.Loop
public import proofs.«01_k».proof.Proof.Gen.KernelIdeal.Frame
public import Idealize.ShloMosaic.Lib.Pipeline.ReadBack

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.Sem

/-- The scratch planes `w` with a point's contributions added. -/
def planeAdd (w : Vec Ideal S19x8x128 .f32) (x0 x1 : Vec Ideal S1000x1024 .f32) : Vec Ideal S19x8x128 .f32 :=
  fun z => (w z : EReal) + loopSum x0 x1 (z 0) (ix2 (z 1) (z 2))

/-- The rectangle of plane `p` is inside the scratch. -/
theorem plane_inb (p : Fin 19) : ∀ a, (![p.val, 0, 0] : Fin 3 → ℕ) a + (![1, 8, 128] : Fin 3 → ℕ) a ≤ S19x8x128.size a := by
  intro a
  have := p.isLt
  fin_cases a
  · show p.val + 1 ≤ 19; omega
  · exact Nat.le_refl _
  · exact Nat.le_refl _

/-- The store of one plane is that plane of the sum. -/
theorem piece_eq (p : Fin 19) (w : Vec Ideal S19x8x128 .f32) (x0' x1' : Vec Ideal S1000x1024 .f32) (a : Acc Ideal)
    (v : FVec Ideal S8x128 .f32) (hv : ∀ y, v y = accAt a p y) (inb : ∀ b, (![p.val, 0, 0] : Fin 3 → ℕ) b + (![1, 8, 128] : Fin 3 → ℕ) b ≤ S19x8x128.size b)
    (u : Vec Ideal S1x8x128 .f32) (hu : ∀ x, u x = w ((Rect.unit (s := S19x8x128) ![p.val, 0, 0] ![1, 8, 128] inb).emb x))
    (hl : ∀ p y, accAt a p y = loopSum x0' x1' p y) (x : S1x8x128.Idx) :
    shapeCast S1x8x128 (addf (shapeCast S8x128 u shapeCasts_S1x8x128_S8x128) v) shapeCasts_S8x128_S1x8x128 x
      = planeAdd w x0' x1' ((Rect.unit (s := S19x8x128) ![p.val, 0, 0] ![1, 8, 128] inb).emb x) := by
  have hp : ∀ (i : Fin 1) (j : Fin 8) (k : Fin 128),
      ((Rect.unit (s := S19x8x128) ![p.val, 0, 0] ![1, 8, 128] inb).emb (ix3 i j k) : S19x8x128.Idx) = ix3 p j k := by
    intro i j k
    have h0 : i.val = 0 := by omega
    funext b
    apply Fin.ext
    refine (Rect.idx_unit_val _ _ _ _ b).trans ?_
    fin_cases b
    · show p.val + i.val = p.val; omega
    · exact Nat.zero_add _
    · exact Nat.zero_add _
  idx_vars x
  rw [hp]
  show _ = (w (ix3 p x1 x2) : EReal) + loopSum x0' x1' p (ix2 x1 x2)
  have hu' := hu (ix3 x0 x1 x2)
  rw [hp] at hu'
  rw [← hl, ← hv, ← hu']
  pointwise []
  rw [show x0 = 0 from Subsingleton.elim _ _]

/-- Stores that are all blocks of one function leave it where one of them covers. -/
theorem planes_canon (G : Vec Ideal S19x8x128 .f32) (L : List (View.Piece (Elt Ideal) S19x8x128 .f32)) (h : View.PiecesOf G L) (y : S19x8x128.Idx)
    (hc : ∃ q ∈ L, y ∈ q.1.set) : View.canon L y = G y := by
  have := View.canon_append_of_piecesOf G [] L h y hc
  rwa [List.append_nil] at this

/-- A plane's load through the whole scratch reads the scratch there. -/
theorem plane_load (m : Memref sig .tc .vmem S19x8x128 .f32) (hm : m.IsWhole) (X : Vec Ideal S19x8x128 .f32) (off : Fin 3 → ℕ)
    (inb : ∀ b, off b + (![1, 8, 128] : Fin 3 → ℕ) b ≤ S19x8x128.size b) (x : S1x8x128.Idx) :
    View.readAt (Elt Ideal) m.view (Rect.unit (s := S19x8x128) off ![1, 8, 128] inb).toLoadRect (hm.unread X) x
      = X ((Rect.unit (s := S19x8x128) off ![1, 8, 128] inb).emb x) :=
  Memref.IsWhole.readAt_unread hm X (Rect.unit (s := S19x8x128) off ![1, 8, 128] inb).toLoadRect x

/-- Every entry of the scratch lies in its own plane's rectangle. -/
theorem plane_cover (L : List (View.Piece (Elt Ideal) S19x8x128 .f32)) (y : S19x8x128.Idx)
    (h : ∀ p : Fin 19, ∃ v, (⟨Rect.unit (s := S19x8x128) ![p.val, 0, 0] ![1, 8, 128] (plane_inb p), v⟩ : View.Piece (Elt Ideal) S19x8x128 .f32) ∈ L) :
    ∃ q ∈ L, y ∈ q.1.set := by
  obtain ⟨v, hv⟩ := h (y 0)
  refine ⟨_, hv, ?_⟩
  rw [Rect.mem_set_unit]
  intro a
  fin_cases a
  · exact ⟨Nat.le_refl _, Nat.lt_succ_self _⟩
  · exact ⟨Nat.zero_le _, by have h : (y 1).val < 8 := (y 1).isLt; show (y 1).val < 0 + 8; omega⟩
  · exact ⟨Nat.zero_le _, by have h : (y 2).val < 128 := (y 2).isLt; show (y 2).val < 0 + 128; omega⟩

/-- Case A leaves in the scratch the point's own contributions. -/
theorem sout_A (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (hc0 : cond0_0 i) (hc1 : ¬cond0_1 i)
    (x0 x1 : Vec Ideal S1000x1024 .f32) :
    sout0_A_0 c i arg1 harg1 arg2 harg2 arg3 harg3 arg4 harg4 hc0 hc1 x0 x1 = planeAdd (k0_pay290 (F := Ideal)) x0 x1 := by
  have hl : ∀ p y, accAt (st_k0_t1 (F := Ideal) Variants.none c none i arg1 harg1 arg2 harg2 arg3 harg3 arg4 harg4 (harg1.unread x0) (harg2.unread x1) (k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291) (Scf.trips 0#32 (Scalar.addi 0#32 125#32) 1#32)) p y = loopSum x0 x1 p y :=
    fun p y => accAt_loop _ _ _ _ _ _ _ _ _ _ _ _ x0 x1 _ p y (by fin_cases p <;> exact Ideal.ofBits_zero_f32)
  frame_open
  rw [View.read_writes_junk_eq_canon]
  simp (disch := decide) only [↓ View.readCov_skip, ↓ View.readCov_cons_toLoadRect, ↓ View.readCov_fill]
  funext y
  refine View.canon_append_of_piecesOf (G := planeAdd (k0_pay290 (F := Ideal)) x0 x1) [_] [_, _, _, _, _, _, _, _, _, _, _, _, _, _, _, _, _, _, _] ?_ y (plane_cover _ y ?_)
  · exact ⟨fun x => piece_eq 18 _ _ _ _ _ (fun _ => rfl) _ _ (fun _ => rfl) hl x, fun x => piece_eq 17 _ _ _ _ _ (fun _ => rfl) _ _ (fun _ => rfl) hl x, fun x => piece_eq 16 _ _ _ _ _ (fun _ => rfl) _ _ (fun _ => rfl) hl x, fun x => piece_eq 15 _ _ _ _ _ (fun _ => rfl) _ _ (fun _ => rfl) hl x, fun x => piece_eq 14 _ _ _ _ _ (fun _ => rfl) _ _ (fun _ => rfl) hl x, fun x => piece_eq 13 _ _ _ _ _ (fun _ => rfl) _ _ (fun _ => rfl) hl x, fun x => piece_eq 12 _ _ _ _ _ (fun _ => rfl) _ _ (fun _ => rfl) hl x, fun x => piece_eq 11 _ _ _ _ _ (fun _ => rfl) _ _ (fun _ => rfl) hl x, fun x => piece_eq 10 _ _ _ _ _ (fun _ => rfl) _ _ (fun _ => rfl) hl x, fun x => piece_eq 9 _ _ _ _ _ (fun _ => rfl) _ _ (fun _ => rfl) hl x, fun x => piece_eq 8 _ _ _ _ _ (fun _ => rfl) _ _ (fun _ => rfl) hl x, fun x => piece_eq 7 _ _ _ _ _ (fun _ => rfl) _ _ (fun _ => rfl) hl x, fun x => piece_eq 6 _ _ _ _ _ (fun _ => rfl) _ _ (fun _ => rfl) hl x, fun x => piece_eq 5 _ _ _ _ _ (fun _ => rfl) _ _ (fun _ => rfl) hl x, fun x => piece_eq 4 _ _ _ _ _ (fun _ => rfl) _ _ (fun _ => rfl) hl x, fun x => piece_eq 3 _ _ _ _ _ (fun _ => rfl) _ _ (fun _ => rfl) hl x, fun x => piece_eq 2 _ _ _ _ _ (fun _ => rfl) _ _ (fun _ => rfl) hl x, fun x => piece_eq 1 _ _ _ _ _ (fun _ => rfl) _ _ (fun _ => rfl) hl x, fun x => piece_eq 0 _ _ _ _ _ (fun _ => rfl) _ _ (fun _ => rfl) hl x, trivial⟩
  · intro p
    fin_cases p
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩
    · exact ⟨_, List.Mem.tail _ (List.Mem.tail _ (List.Mem.tail _ (List.Mem.tail _ (List.Mem.tail _ (List.Mem.tail _ (List.Mem.tail _ (List.Mem.tail _ (List.Mem.tail _ (List.Mem.head _)))))))))⟩
    · exact ⟨_, List.Mem.tail _ (List.Mem.tail _ (List.Mem.tail _ (List.Mem.tail _ (List.Mem.tail _ (List.Mem.tail _ (List.Mem.tail _ (List.Mem.tail _ (List.Mem.head _))))))))⟩
    · exact ⟨_, List.Mem.tail _ (List.Mem.tail _ (List.Mem.tail _ (List.Mem.tail _ (List.Mem.tail _ (List.Mem.tail _ (List.Mem.tail _ (List.Mem.head _)))))))⟩
    · exact ⟨_, List.Mem.tail _ (List.Mem.tail _ (List.Mem.tail _ (List.Mem.tail _ (List.Mem.tail _ (List.Mem.tail _ (List.Mem.head _))))))⟩
    · exact ⟨_, List.Mem.tail _ (List.Mem.tail _ (List.Mem.tail _ (List.Mem.tail _ (List.Mem.tail _ (List.Mem.head _)))))⟩
    · exact ⟨_, List.Mem.tail _ (List.Mem.tail _ (List.Mem.tail _ (List.Mem.tail _ (List.Mem.head _))))⟩
    · exact ⟨_, List.Mem.tail _ (List.Mem.tail _ (List.Mem.tail _ (List.Mem.head _)))⟩
    · exact ⟨_, List.Mem.tail _ (List.Mem.tail _ (List.Mem.head _))⟩
    · exact ⟨_, List.Mem.tail _ (List.Mem.head _)⟩
    · exact ⟨_, List.Mem.head _⟩

/-- Case B leaves in the scratch the planes before the point plus the point's contributions. -/
theorem sout_B (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (hc0 : ¬cond0_0 i) (hc1 : ¬cond0_1 i)
    (x0 x1 : Vec Ideal S1000x1024 .f32) (xs0 : Vec Ideal S19x8x128 .f32) :
    sout0_B_0 c i arg1 harg1 arg2 harg2 arg3 harg3 arg4 harg4 hc0 hc1 x0 x1 xs0 = planeAdd xs0 x0 x1 := by
  have hl : ∀ p y, accAt (st_k0_t1 (F := Ideal) Variants.none c none i arg1 harg1 arg2 harg2 arg3 harg3 arg4 harg4 (harg1.unread x0) (harg2.unread x1) (k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291) (Scf.trips 0#32 (Scalar.addi 0#32 125#32) 1#32)) p y = loopSum x0 x1 p y :=
    fun p y => accAt_loop _ _ _ _ _ _ _ _ _ _ _ _ x0 x1 _ p y (by fin_cases p <;> exact Ideal.ofBits_zero_f32)
  frame_open
  rw [View.read_writes_junk_eq_canon]
  simp (disch := decide) only [↓ View.readCov_skip, ↓ View.readCov_cons_toLoadRect, ↓ View.readCov_fill]
  funext y
  refine planes_canon (planeAdd xs0 x0 x1) _ ?_ y (plane_cover _ y ?_)
  · exact ⟨fun x => piece_eq 18 _ _ _ _ _ (fun _ => rfl) _ _ (fun x => plane_load _ harg4 xs0 _ _ x) hl x, fun x => piece_eq 17 _ _ _ _ _ (fun _ => rfl) _ _ (fun x => plane_load _ harg4 xs0 _ _ x) hl x, fun x => piece_eq 16 _ _ _ _ _ (fun _ => rfl) _ _ (fun x => plane_load _ harg4 xs0 _ _ x) hl x, fun x => piece_eq 15 _ _ _ _ _ (fun _ => rfl) _ _ (fun x => plane_load _ harg4 xs0 _ _ x) hl x, fun x => piece_eq 14 _ _ _ _ _ (fun _ => rfl) _ _ (fun x => plane_load _ harg4 xs0 _ _ x) hl x, fun x => piece_eq 13 _ _ _ _ _ (fun _ => rfl) _ _ (fun x => plane_load _ harg4 xs0 _ _ x) hl x, fun x => piece_eq 12 _ _ _ _ _ (fun _ => rfl) _ _ (fun x => plane_load _ harg4 xs0 _ _ x) hl x, fun x => piece_eq 11 _ _ _ _ _ (fun _ => rfl) _ _ (fun x => plane_load _ harg4 xs0 _ _ x) hl x, fun x => piece_eq 10 _ _ _ _ _ (fun _ => rfl) _ _ (fun x => plane_load _ harg4 xs0 _ _ x) hl x, fun x => piece_eq 9 _ _ _ _ _ (fun _ => rfl) _ _ (fun x => plane_load _ harg4 xs0 _ _ x) hl x, fun x => piece_eq 8 _ _ _ _ _ (fun _ => rfl) _ _ (fun x => plane_load _ harg4 xs0 _ _ x) hl x, fun x => piece_eq 7 _ _ _ _ _ (fun _ => rfl) _ _ (fun x => plane_load _ harg4 xs0 _ _ x) hl x, fun x => piece_eq 6 _ _ _ _ _ (fun _ => rfl) _ _ (fun x => plane_load _ harg4 xs0 _ _ x) hl x, fun x => piece_eq 5 _ _ _ _ _ (fun _ => rfl) _ _ (fun x => plane_load _ harg4 xs0 _ _ x) hl x, fun x => piece_eq 4 _ _ _ _ _ (fun _ => rfl) _ _ (fun x => plane_load _ harg4 xs0 _ _ x) hl x, fun x => piece_eq 3 _ _ _ _ _ (fun _ => rfl) _ _ (fun x => plane_load _ harg4 xs0 _ _ x) hl x, fun x => piece_eq 2 _ _ _ _ _ (fun _ => rfl) _ _ (fun x => plane_load _ harg4 xs0 _ _ x) hl x, fun x => piece_eq 1 _ _ _ _ _ (fun _ => rfl) _ _ (fun x => plane_load _ harg4 xs0 _ _ x) hl x, fun x => piece_eq 0 _ _ _ _ _ (fun _ => rfl) _ _ (fun x => plane_load _ harg4 xs0 _ _ x) hl x, trivial⟩
  · intro p
    fin_cases p
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩
    · exact ⟨_, List.Mem.tail _ (List.Mem.tail _ (List.Mem.tail _ (List.Mem.tail _ (List.Mem.tail _ (List.Mem.tail _ (List.Mem.tail _ (List.Mem.tail _ (List.Mem.tail _ (List.Mem.head _)))))))))⟩
    · exact ⟨_, List.Mem.tail _ (List.Mem.tail _ (List.Mem.tail _ (List.Mem.tail _ (List.Mem.tail _ (List.Mem.tail _ (List.Mem.tail _ (List.Mem.tail _ (List.Mem.head _))))))))⟩
    · exact ⟨_, List.Mem.tail _ (List.Mem.tail _ (List.Mem.tail _ (List.Mem.tail _ (List.Mem.tail _ (List.Mem.tail _ (List.Mem.tail _ (List.Mem.head _)))))))⟩
    · exact ⟨_, List.Mem.tail _ (List.Mem.tail _ (List.Mem.tail _ (List.Mem.tail _ (List.Mem.tail _ (List.Mem.tail _ (List.Mem.head _))))))⟩
    · exact ⟨_, List.Mem.tail _ (List.Mem.tail _ (List.Mem.tail _ (List.Mem.tail _ (List.Mem.tail _ (List.Mem.head _)))))⟩
    · exact ⟨_, List.Mem.tail _ (List.Mem.tail _ (List.Mem.tail _ (List.Mem.tail _ (List.Mem.head _))))⟩
    · exact ⟨_, List.Mem.tail _ (List.Mem.tail _ (List.Mem.tail _ (List.Mem.head _)))⟩
    · exact ⟨_, List.Mem.tail _ (List.Mem.tail _ (List.Mem.head _))⟩
    · exact ⟨_, List.Mem.tail _ (List.Mem.head _)⟩
    · exact ⟨_, List.Mem.head _⟩

/-- Case C leaves in the scratch the planes before the point plus the point's contributions. -/
theorem sout_C (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (hc0 : ¬cond0_0 i) (hc1 : cond0_1 i)
    (x0 x1 : Vec Ideal S1000x1024 .f32) (xs0 : Vec Ideal S19x8x128 .f32) :
    sout0_C_0 c i arg1 harg1 arg2 harg2 arg3 harg3 arg4 harg4 hc0 hc1 x0 x1 xs0 = planeAdd xs0 x0 x1 := by
  have hl : ∀ p y, accAt (st_k0_t1 (F := Ideal) Variants.none c none i arg1 harg1 arg2 harg2 arg3 harg3 arg4 harg4 (harg1.unread x0) (harg2.unread x1) (k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291) (Scf.trips 0#32 (Scalar.addi 0#32 125#32) 1#32)) p y = loopSum x0 x1 p y :=
    fun p y => accAt_loop _ _ _ _ _ _ _ _ _ _ _ _ x0 x1 _ p y (by fin_cases p <;> exact Ideal.ofBits_zero_f32)
  frame_open
  rw [View.read_writes_junk_eq_canon]
  simp (disch := decide) only [↓ View.readCov_skip, ↓ View.readCov_cons_toLoadRect, ↓ View.readCov_fill]
  funext y
  refine planes_canon (planeAdd xs0 x0 x1) _ ?_ y (plane_cover _ y ?_)
  · exact ⟨fun x => piece_eq 18 _ _ _ _ _ (fun _ => rfl) _ _ (fun x => plane_load _ harg4 xs0 _ _ x) hl x, fun x => piece_eq 17 _ _ _ _ _ (fun _ => rfl) _ _ (fun x => plane_load _ harg4 xs0 _ _ x) hl x, fun x => piece_eq 16 _ _ _ _ _ (fun _ => rfl) _ _ (fun x => plane_load _ harg4 xs0 _ _ x) hl x, fun x => piece_eq 15 _ _ _ _ _ (fun _ => rfl) _ _ (fun x => plane_load _ harg4 xs0 _ _ x) hl x, fun x => piece_eq 14 _ _ _ _ _ (fun _ => rfl) _ _ (fun x => plane_load _ harg4 xs0 _ _ x) hl x, fun x => piece_eq 13 _ _ _ _ _ (fun _ => rfl) _ _ (fun x => plane_load _ harg4 xs0 _ _ x) hl x, fun x => piece_eq 12 _ _ _ _ _ (fun _ => rfl) _ _ (fun x => plane_load _ harg4 xs0 _ _ x) hl x, fun x => piece_eq 11 _ _ _ _ _ (fun _ => rfl) _ _ (fun x => plane_load _ harg4 xs0 _ _ x) hl x, fun x => piece_eq 10 _ _ _ _ _ (fun _ => rfl) _ _ (fun x => plane_load _ harg4 xs0 _ _ x) hl x, fun x => piece_eq 9 _ _ _ _ _ (fun _ => rfl) _ _ (fun x => plane_load _ harg4 xs0 _ _ x) hl x, fun x => piece_eq 8 _ _ _ _ _ (fun _ => rfl) _ _ (fun x => plane_load _ harg4 xs0 _ _ x) hl x, fun x => piece_eq 7 _ _ _ _ _ (fun _ => rfl) _ _ (fun x => plane_load _ harg4 xs0 _ _ x) hl x, fun x => piece_eq 6 _ _ _ _ _ (fun _ => rfl) _ _ (fun x => plane_load _ harg4 xs0 _ _ x) hl x, fun x => piece_eq 5 _ _ _ _ _ (fun _ => rfl) _ _ (fun x => plane_load _ harg4 xs0 _ _ x) hl x, fun x => piece_eq 4 _ _ _ _ _ (fun _ => rfl) _ _ (fun x => plane_load _ harg4 xs0 _ _ x) hl x, fun x => piece_eq 3 _ _ _ _ _ (fun _ => rfl) _ _ (fun x => plane_load _ harg4 xs0 _ _ x) hl x, fun x => piece_eq 2 _ _ _ _ _ (fun _ => rfl) _ _ (fun x => plane_load _ harg4 xs0 _ _ x) hl x, fun x => piece_eq 1 _ _ _ _ _ (fun _ => rfl) _ _ (fun x => plane_load _ harg4 xs0 _ _ x) hl x, fun x => piece_eq 0 _ _ _ _ _ (fun _ => rfl) _ _ (fun x => plane_load _ harg4 xs0 _ _ x) hl x, trivial⟩
  · intro p
    fin_cases p
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _))))))))))⟩
    · exact ⟨_, List.Mem.tail _ (List.Mem.tail _ (List.Mem.tail _ (List.Mem.tail _ (List.Mem.tail _ (List.Mem.tail _ (List.Mem.tail _ (List.Mem.tail _ (List.Mem.tail _ (List.Mem.head _)))))))))⟩
    · exact ⟨_, List.Mem.tail _ (List.Mem.tail _ (List.Mem.tail _ (List.Mem.tail _ (List.Mem.tail _ (List.Mem.tail _ (List.Mem.tail _ (List.Mem.tail _ (List.Mem.head _))))))))⟩
    · exact ⟨_, List.Mem.tail _ (List.Mem.tail _ (List.Mem.tail _ (List.Mem.tail _ (List.Mem.tail _ (List.Mem.tail _ (List.Mem.tail _ (List.Mem.head _)))))))⟩
    · exact ⟨_, List.Mem.tail _ (List.Mem.tail _ (List.Mem.tail _ (List.Mem.tail _ (List.Mem.tail _ (List.Mem.tail _ (List.Mem.head _))))))⟩
    · exact ⟨_, List.Mem.tail _ (List.Mem.tail _ (List.Mem.tail _ (List.Mem.tail _ (List.Mem.tail _ (List.Mem.head _)))))⟩
    · exact ⟨_, List.Mem.tail _ (List.Mem.tail _ (List.Mem.tail _ (List.Mem.tail _ (List.Mem.head _))))⟩
    · exact ⟨_, List.Mem.tail _ (List.Mem.tail _ (List.Mem.tail _ (List.Mem.head _)))⟩
    · exact ⟨_, List.Mem.tail _ (List.Mem.tail _ (List.Mem.head _))⟩
    · exact ⟨_, List.Mem.tail _ (List.Mem.head _)⟩
    · exact ⟨_, List.Mem.head _⟩

end Cert.KernelIdeal.Hist

end
-- ==== Proof.Final.lean ====
/-
  What the last grid point leaves in the result's cell, at the ideal instance: a scalar expression of the nineteen plane sums.
-/
module

public import proofs.«01_k».proof.Proof.Scratch

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.Sem

/-- One for a positive count, zero otherwise. -/
def ind (x : EReal) : EReal := ((((Ideal.cmp .ogt x (Ideal.ofBits .f32 0x00000000#32)).setWidth 32 : BitVec 32).toInt : ℝ) : EReal)

/-- The weight of a bin of count `x` when `ne` bins are populated. -/
def wt (ne x : EReal) : EReal := Ideal.div (Ideal.ofBits .f32 0x4B7A0000#32) (max (x * ne) (Ideal.ofBits .f32 0x3F800000#32))

/-- The count of bin 0: all the elements outside the other bins. -/
def cnt0 (P : Fin 19 → EReal) : EReal := Ideal.ofBits .f32 0x4B7A0000#32 - ((((((((P 9 + P 10) + P 11) + P 12) + P 13) + P 14) + P 15) + P 16) + P 17)

/-- The sum of bin 0: the total without the other bins' sums. -/
def sum0 (P : Fin 19 → EReal) : EReal := P 18 - ((((((((P 0 + P 1) + P 2) + P 3) + P 4) + P 5) + P 6) + P 7) + P 8)

/-- The number of populated bins. -/
def nonempty (P : Fin 19 → EReal) : EReal := (((((((((ind (cnt0 P) + ind (P 9)) + ind (P 10)) + ind (P 11)) + ind (P 12)) + ind (P 13)) + ind (P 14)) + ind (P 15)) + ind (P 16)) + ind (P 17))

/-- The result from the nineteen plane sums. -/
def finalOf (P : Fin 19 → EReal) : EReal :=
  Ideal.div (Ideal.ofBits .f32 0x00000000#32 - ((((((((((sum0 P * Ideal.ofBits .f32 0x00000000#32 + sum0 P * wt (nonempty P) (cnt0 P)) + P 0 * wt (nonempty P) (P 9)) + P 1 * wt (nonempty P) (P 10)) + P 2 * wt (nonempty P) (P 11)) + P 3 * wt (nonempty P) (P 12)) + P 4 * wt (nonempty P) (P 13)) + P 5 * wt (nonempty P) (P 14)) + P 6 * wt (nonempty P) (P 15)) + P 7 * wt (nonempty P) (P 16)) + P 8 * wt (nonempty P) (P 17)))
    (Ideal.ofBits .f32 0x4B7A0000#32)

/-- Plane `p` of the scratch, as the body loads it. -/
def planeOf (w : Vec Ideal S19x8x128 .f32) (p : Fin 19) : Vec Ideal S1x8x128 .f32 :=
  View.ld w (Rect.unit (s := S19x8x128) ![p.val, 0, 0] ![1, 8, 128] (plane_inb p))

/-- The sum of one plane over its rows and lanes. -/
def planeSum (v : Vec Ideal S1x8x128 .f32) : EReal := k0_pay266 (F := Ideal) v

/-- The last point's result. -/
theorem out_C (c : Dev nD) (i : grid0.Coords) (arg1 : Memref sig .tc .vmem S1000x1024 .f32) (harg1 : arg1.IsWhole) (arg2 : Memref sig .tc .vmem S1000x1024 .f32) (harg2 : arg2.IsWhole) (arg3 : Memref sig .tc .smem S1x1 .f32) (harg3 : arg3.IsWhole) (arg4 : Memref sig .tc .vmem S19x8x128 .f32) (harg4 : arg4.IsWhole) (hc0 : ¬cond0_0 i) (hc1 : cond0_1 i)
    (x0 x1 : Vec Ideal S1000x1024 .f32) (xs0 : Vec Ideal S19x8x128 .f32) :
    out0_C_2 c i arg1 harg1 arg2 harg2 arg3 harg3 arg4 harg4 hc0 hc1 x0 x1 xs0
      = fun _ => finalOf (fun p => planeSum (planeOf (planeAdd xs0 x0 x1) p)) := by
  have hl : ∀ p y, accAt (st_k0_t1 (F := Ideal) Variants.none c none i arg1 harg1 arg2 harg2 arg3 harg3 arg4 harg4 (harg1.unread x0) (harg2.unread x1) (k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291) (Scf.trips 0#32 (Scalar.addi 0#32 125#32) 1#32)) p y = loopSum x0 x1 p y :=
    fun p y => accAt_loop _ _ _ _ _ _ _ _ _ _ _ _ x0 x1 _ p y (by fin_cases p <;> exact Ideal.ofBits_zero_f32)
  generalize hst : st_k0_t1 (F := Ideal) Variants.none c none i arg1 harg1 arg2 harg2 arg3 harg3 arg4 harg4 (harg1.unread x0) (harg2.unread x1) (k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291, k0_pay291) (Scf.trips 0#32 (Scalar.addi 0#32 125#32) 1#32) = st at hl
  have e0 : k0_pay298 (st.1) (View.readAt (Elt Ideal) arg4.view (Rect.unit (s := S19x8x128) ![0, 0, 0] ![1, 8, 128] inb_S19x8x128_S1x8x128_0_0_0).toLoadRect (harg4.unread xs0)) = planeOf (planeAdd xs0 x0 x1) 0 :=
    funext fun x => piece_eq 0 _ _ _ _ _ (fun _ => rfl) _ _ (fun x => plane_load _ harg4 xs0 _ _ x) hl x
  have e1 : k0_pay299 (st.2.1) (View.readAt (Elt Ideal) arg4.view (Rect.unit (s := S19x8x128) ![1, 0, 0] ![1, 8, 128] inb_S19x8x128_S1x8x128_1_0_0).toLoadRect (harg4.unread xs0)) = planeOf (planeAdd xs0 x0 x1) 1 :=
    funext fun x => piece_eq 1 _ _ _ _ _ (fun _ => rfl) _ _ (fun x => plane_load _ harg4 xs0 _ _ x) hl x
  have e2 : k0_pay300 (st.2.2.1) (View.readAt (Elt Ideal) arg4.view (Rect.unit (s := S19x8x128) ![2, 0, 0] ![1, 8, 128] inb_S19x8x128_S1x8x128_2_0_0).toLoadRect (harg4.unread xs0)) = planeOf (planeAdd xs0 x0 x1) 2 :=
    funext fun x => piece_eq 2 _ _ _ _ _ (fun _ => rfl) _ _ (fun x => plane_load _ harg4 xs0 _ _ x) hl x
  have e3 : k0_pay302 (k0_pay301 (st.2.2.2.1) (View.readAt (Elt Ideal) arg4.view (Rect.unit (s := S19x8x128) ![3, 0, 0] ![1, 8, 128] inb_S19x8x128_S1x8x128_3_0_0).toLoadRect (harg4.unread xs0))) = planeOf (planeAdd xs0 x0 x1) 3 :=
    funext fun x => piece_eq 3 _ _ _ _ _ (fun _ => rfl) _ _ (fun x => plane_load _ harg4 xs0 _ _ x) hl x
  have e4 : k0_pay303 (st.2.2.2.2.1) (View.readAt (Elt Ideal) arg4.view (Rect.unit (s := S19x8x128) ![4, 0, 0] ![1, 8, 128] inb_S19x8x128_S1x8x128_4_0_0).toLoadRect (harg4.unread xs0)) = planeOf (planeAdd xs0 x0 x1) 4 :=
    funext fun x => piece_eq 4 _ _ _ _ _ (fun _ => rfl) _ _ (fun x => plane_load _ harg4 xs0 _ _ x) hl x
  have e5 : k0_pay304 (st.2.2.2.2.2.1) (View.readAt (Elt Ideal) arg4.view (Rect.unit (s := S19x8x128) ![5, 0, 0] ![1, 8, 128] inb_S19x8x128_S1x8x128_5_0_0).toLoadRect (harg4.unread xs0)) = planeOf (planeAdd xs0 x0 x1) 5 :=
    funext fun x => piece_eq 5 _ _ _ _ _ (fun _ => rfl) _ _ (fun x => plane_load _ harg4 xs0 _ _ x) hl x
  have e6 : k0_pay305 (st.2.2.2.2.2.2.1) (View.readAt (Elt Ideal) arg4.view (Rect.unit (s := S19x8x128) ![6, 0, 0] ![1, 8, 128] inb_S19x8x128_S1x8x128_6_0_0).toLoadRect (harg4.unread xs0)) = planeOf (planeAdd xs0 x0 x1) 6 :=
    funext fun x => piece_eq 6 _ _ _ _ _ (fun _ => rfl) _ _ (fun x => plane_load _ harg4 xs0 _ _ x) hl x
  have e7 : k0_pay306 (st.2.2.2.2.2.2.2.1) (View.readAt (Elt Ideal) arg4.view (Rect.unit (s := S19x8x128) ![7, 0, 0] ![1, 8, 128] inb_S19x8x128_S1x8x128_7_0_0).toLoadRect (harg4.unread xs0)) = planeOf (planeAdd xs0 x0 x1) 7 :=
    funext fun x => piece_eq 7 _ _ _ _ _ (fun _ => rfl) _ _ (fun x => plane_load _ harg4 xs0 _ _ x) hl x
  have e8 : k0_pay307 (st.2.2.2.2.2.2.2.2.1) (View.readAt (Elt Ideal) arg4.view (Rect.unit (s := S19x8x128) ![8, 0, 0] ![1, 8, 128] inb_S19x8x128_S1x8x128_8_0_0).toLoadRect (harg4.unread xs0)) = planeOf (planeAdd xs0 x0 x1) 8 :=
    funext fun x => piece_eq 8 _ _ _ _ _ (fun _ => rfl) _ _ (fun x => plane_load _ harg4 xs0 _ _ x) hl x
  have e9 : k0_pay308 (st.2.2.2.2.2.2.2.2.2.1) (View.readAt (Elt Ideal) arg4.view (Rect.unit (s := S19x8x128) ![9, 0, 0] ![1, 8, 128] inb_S19x8x128_S1x8x128_9_0_0).toLoadRect (harg4.unread xs0)) = planeOf (planeAdd xs0 x0 x1) 9 :=
    funext fun x => piece_eq 9 _ _ _ _ _ (fun _ => rfl) _ _ (fun x => plane_load _ harg4 xs0 _ _ x) hl x
  have e10 : k0_pay309 (st.2.2.2.2.2.2.2.2.2.2.1) (View.readAt (Elt Ideal) arg4.view (Rect.unit (s := S19x8x128) ![10, 0, 0] ![1, 8, 128] inb_S19x8x128_S1x8x128_10_0_0).toLoadRect (harg4.unread xs0)) = planeOf (planeAdd xs0 x0 x1) 10 :=
    funext fun x => piece_eq 10 _ _ _ _ _ (fun _ => rfl) _ _ (fun x => plane_load _ harg4 xs0 _ _ x) hl x
  have e11 : k0_pay310 (st.2.2.2.2.2.2.2.2.2.2.2.1) (View.readAt (Elt Ideal) arg4.view (Rect.unit (s := S19x8x128) ![11, 0, 0] ![1, 8, 128] inb_S19x8x128_S1x8x128_11_0_0).toLoadRect (harg4.unread xs0)) = planeOf (planeAdd xs0 x0 x1) 11 :=
    funext fun x => piece_eq 11 _ _ _ _ _ (fun _ => rfl) _ _ (fun x => plane_load _ harg4 xs0 _ _ x) hl x
  have e12 : k0_pay312 (k0_pay311 (st.2.2.2.2.2.2.2.2.2.2.2.2.1) (View.readAt (Elt Ideal) arg4.view (Rect.unit (s := S19x8x128) ![12, 0, 0] ![1, 8, 128] inb_S19x8x128_S1x8x128_12_0_0).toLoadRect (harg4.unread xs0))) = planeOf (planeAdd xs0 x0 x1) 12 :=
    funext fun x => piece_eq 12 _ _ _ _ _ (fun _ => rfl) _ _ (fun x => plane_load _ harg4 xs0 _ _ x) hl x
  have e13 : k0_pay313 (st.2.2.2.2.2.2.2.2.2.2.2.2.2.1) (View.readAt (Elt Ideal) arg4.view (Rect.unit (s := S19x8x128) ![13, 0, 0] ![1, 8, 128] inb_S19x8x128_S1x8x128_13_0_0).toLoadRect (harg4.unread xs0)) = planeOf (planeAdd xs0 x0 x1) 13 :=
    funext fun x => piece_eq 13 _ _ _ _ _ (fun _ => rfl) _ _ (fun x => plane_load _ harg4 xs0 _ _ x) hl x
  have e14 : k0_pay314 (st.2.2.2.2.2.2.2.2.2.2.2.2.2.2.1) (View.readAt (Elt Ideal) arg4.view (Rect.unit (s := S19x8x128) ![14, 0, 0] ![1, 8, 128] inb_S19x8x128_S1x8x128_14_0_0).toLoadRect (harg4.unread xs0)) = planeOf (planeAdd xs0 x0 x1) 14 :=
    funext fun x => piece_eq 14 _ _ _ _ _ (fun _ => rfl) _ _ (fun x => plane_load _ harg4 xs0 _ _ x) hl x
  have e15 : k0_pay315 (st.2.2.2.2.2.2.2.2.2.2.2.2.2.2.2.1) (View.readAt (Elt Ideal) arg4.view (Rect.unit (s := S19x8x128) ![15, 0, 0] ![1, 8, 128] inb_S19x8x128_S1x8x128_15_0_0).toLoadRect (harg4.unread xs0)) = planeOf (planeAdd xs0 x0 x1) 15 :=
    funext fun x => piece_eq 15 _ _ _ _ _ (fun _ => rfl) _ _ (fun x => plane_load _ harg4 xs0 _ _ x) hl x
  have e16 : k0_pay316 (st.2.2.2.2.2.2.2.2.2.2.2.2.2.2.2.2.1) (View.readAt (Elt Ideal) arg4.view (Rect.unit (s := S19x8x128) ![16, 0, 0] ![1, 8, 128] inb_S19x8x128_S1x8x128_16_0_0).toLoadRect (harg4.unread xs0)) = planeOf (planeAdd xs0 x0 x1) 16 :=
    funext fun x => piece_eq 16 _ _ _ _ _ (fun _ => rfl) _ _ (fun x => plane_load _ harg4 xs0 _ _ x) hl x
  have e17 : k0_pay1 (st.2.2.2.2.2.2.2.2.2.2.2.2.2.2.2.2.2.1) (View.readAt (Elt Ideal) arg4.view (Rect.unit (s := S19x8x128) ![17, 0, 0] ![1, 8, 128] inb_S19x8x128_S1x8x128_17_0_0).toLoadRect (harg4.unread xs0)) = planeOf (planeAdd xs0 x0 x1) 17 :=
    funext fun x => piece_eq 17 _ _ _ _ _ (fun _ => rfl) _ _ (fun x => plane_load _ harg4 xs0 _ _ x) hl x
  have e18 : k0_pay2 (st.2.2.2.2.2.2.2.2.2.2.2.2.2.2.2.2.2.2) (View.readAt (Elt Ideal) arg4.view (Rect.unit (s := S19x8x128) ![18, 0, 0] ![1, 8, 128] inb_S19x8x128_S1x8x128_18_0_0).toLoadRect (harg4.unread xs0)) = planeOf (planeAdd xs0 x0 x1) 18 :=
    funext fun x => piece_eq 18 _ _ _ _ _ (fun _ => rfl) _ _ (fun x => plane_load _ harg4 xs0 _ _ x) hl x
  frame_open
  rw [View.read_writes_junk_eq_canon]
  simp (disch := decide) only [↓ View.readCov_skip, ↓ View.readCov_cons_toLoadRect, ↓ View.readCov_fill]
  simp only [hst, e0, e1, e2, e3, e4, e5, e6, e7, e8, e9, e10, e11, e12, e13, e14, e15, e16, e17, e18]
  rw [View.canon_cons_unit_lit _ _ _ (by decide)]
  rfl

end Cert.KernelIdeal.Hist

end
-- ==== Proof.Weighted.lean ====
/-
  The two groupings of the weighted loss: the sum over the elements of the loss times its bin's weight is the sum over the bins of the
  bin's loss times its weight, and the kernel's bin 0, obtained by subtraction, is the bin 0 of the elements.
-/
module

public import proofs.«01_k».proof.Proof.Element
public import proofs.«01_k».proof.Proof.Final

@[expose] public section

set_option maxRecDepth 16384

noncomputable section

namespace Cert.Equation

open Idealize.ShloMosaic
open Cert.ReferenceIdeal.Hist (inBin full weight)
open Cert.KernelIdeal.Hist (ind wt cnt0 sum0 nonempty finalOf)

/-- The index set of the arrays. -/
abbrev Elts : Type := Cert.ReferenceIdeal.S16384x1000.Idx

variable (b : Elts → Fin 10) (f : Elts → ℝ)

/-- The sum of `f` over the elements of one bin. -/
def binSum (k : Fin 10) : ℝ := ∑ y, if b y = k then f y else 0

/-- The bins' sums make up the total. -/
theorem sum_binSum : ∑ k, binSum b f k = ∑ y, f y := by
  unfold binSum
  rw [Finset.sum_comm]
  exact Finset.sum_congr rfl fun y _ => by simp

/-- The bins' counts make up the number of elements. -/
theorem sum_inBin : ∑ k, inBin b k = 16384000 := by
  rw [← Cert.ReferenceIdeal.Hist.card_idx, ← Finset.card_univ]
  exact (Finset.card_eq_sum_card_fiberwise fun y _ => Finset.mem_univ (b y)).symm

/-- The count of a bin as a sum of indicators. -/
theorem inBin_sum (k : Fin 10) : (inBin b k : ℝ) = ∑ y, if b y = k then (1 : ℝ) else 0 := by
  unfold inBin
  rw [Finset.card_filter]
  push_cast
  rfl

/-- Weighting by the element's bin is weighting the bins' sums. -/
theorem sum_weighted (w : Fin 10 → ℝ) : ∑ y, -f y * w (b y) = -∑ k, binSum b f k * w k := by
  unfold binSum
  rw [← Finset.sum_neg_distrib]
  simp only [Finset.sum_mul, ← Finset.sum_neg_distrib]
  rw [Finset.sum_comm]
  refine Finset.sum_congr rfl fun y _ => ?_
  rw [Finset.sum_eq_single (b y)]
  · rw [if_pos rfl, neg_mul]
  · intro k _ hk
    rw [if_neg (Ne.symm hk), zero_mul, neg_zero]
  · intro h
    exact (h (Finset.mem_univ _)).elim

/-- The indicator of a count. -/
theorem ind_eq (n : ℕ) : ind ((n : ℝ) : EReal) = (((if 0 < n then 1 else 0 : ℕ) : ℝ) : EReal) := by
  unfold ind
  rw [Ideal.ofBits_zero_f32]
  by_cases h : 0 < n
  · simp [Ideal.cmp, h]
  · simp [Ideal.cmp, h]

/-- The kernel's count of the populated bins. -/
theorem sum_ind : ∑ k, (if 0 < inBin b k then 1 else 0 : ℕ) = full b := (Finset.card_filter _ _).symm

/-- A bin's weight is a real number. -/
theorem weight_real (k : Fin 10) : ∃ w : ℝ, weight b k = (w : EReal) := by
  unfold weight
  rw [bits_total, bits_one, ← EReal.coe_mul, ← EReal.coe_strictMono.monotone.map_max, Ideal.div_coe
    (ne_of_gt (lt_of_lt_of_le one_pos (le_max_right _ _))), ← EReal.coe_mul]
  exact ⟨_, rfl⟩

/-- The kernel's plane sums, when they are the bins' sums and counts. -/
structure Planes (P : Fin 19 → EReal) : Prop where
  sums : ∀ p : Fin 9, P (p.castAdd 10) = ((binSum b f p.succ : ℝ) : EReal)
  counts : ∀ p : Fin 9, P ((p.natAdd 9).castSucc) = ((inBin b p.succ : ℝ) : EReal)
  total : P 18 = ((∑ y, f y : ℝ) : EReal)

variable {b f}

/-- A sum over the ten bins, written out. -/
theorem sum_ten {M : Type} [AddCommMonoid M] (g : Fin 10 → M) :
    ∑ k, g k = g 0 + g 1 + g 2 + g 3 + g 4 + g 5 + g 6 + g 7 + g 8 + g 9 := by
  simp only [Fin.sum_univ_castSucc, Fin.sum_univ_zero, zero_add]
  rfl

/-- A sum of real numbers is the same sum of extended reals. -/
theorem coe_total {ι : Type} (s : Finset ι) (g : ι → ℝ) : ((∑ y ∈ s, g y : ℝ) : EReal) = ∑ y ∈ s, (g y : EReal) := by
  classical
  induction s using Finset.induction_on with
  | empty => simp
  | insert a s ha ih => rw [Finset.sum_insert ha, Finset.sum_insert ha, EReal.coe_add, ih]

/-- The kernel's last step on such plane sums is the reference's quotient. -/
theorem finalOf_eq {P : Fin 19 → EReal} (h : Planes b f P) :
    finalOf P = Ideal.div (∑ y, ((-f y : ℝ) : EReal) * weight b (b y)) (Ideal.ofBits .f32 0x4B7A0000#32) := by
  have s0 : P 0 = ((binSum b f 1 : ℝ) : EReal) := h.sums 0
  have s1 : P 1 = ((binSum b f 2 : ℝ) : EReal) := h.sums 1
  have s2 : P 2 = ((binSum b f 3 : ℝ) : EReal) := h.sums 2
  have s3 : P 3 = ((binSum b f 4 : ℝ) : EReal) := h.sums 3
  have s4 : P 4 = ((binSum b f 5 : ℝ) : EReal) := h.sums 4
  have s5 : P 5 = ((binSum b f 6 : ℝ) : EReal) := h.sums 5
  have s6 : P 6 = ((binSum b f 7 : ℝ) : EReal) := h.sums 6
  have s7 : P 7 = ((binSum b f 8 : ℝ) : EReal) := h.sums 7
  have s8 : P 8 = ((binSum b f 9 : ℝ) : EReal) := h.sums 8
  have c0 : P 9 = ((inBin b 1 : ℝ) : EReal) := h.counts 0
  have c1 : P 10 = ((inBin b 2 : ℝ) : EReal) := h.counts 1
  have c2 : P 11 = ((inBin b 3 : ℝ) : EReal) := h.counts 2
  have c3 : P 12 = ((inBin b 4 : ℝ) : EReal) := h.counts 3
  have c4 : P 13 = ((inBin b 5 : ℝ) : EReal) := h.counts 4
  have c5 : P 14 = ((inBin b 6 : ℝ) : EReal) := h.counts 5
  have c6 : P 15 = ((inBin b 7 : ℝ) : EReal) := h.counts 6
  have c7 : P 16 = ((inBin b 8 : ℝ) : EReal) := h.counts 7
  have c8 : P 17 = ((inBin b 9 : ℝ) : EReal) := h.counts 8
  have hN := sum_inBin b
  have hS := sum_binSum b f
  have hI := sum_ind b
  rw [sum_ten] at hN hS hI
  have hc : cnt0 P = ((inBin b 0 : ℝ) : EReal) := by
    unfold cnt0
    rw [c0, c1, c2, c3, c4, c5, c6, c7, c8, bits_total]
    simp only [← EReal.coe_add, ← EReal.coe_sub]
    have hN' := congrArg (Nat.cast (R := ℝ)) hN
    push_cast at hN'
    refine congrArg _ ?_
    have e : (16384000 : ℝ) = _ := hN'.symm
    rw [e]
    ring
  have hs : sum0 P = ((binSum b f 0 : ℝ) : EReal) := by
    unfold sum0
    rw [s0, s1, s2, s3, s4, s5, s6, s7, s8, h.total, ← hS]
    simp only [← EReal.coe_add, ← EReal.coe_sub]
    refine congrArg _ ?_
    ring
  have hn : nonempty P = ((full b : ℝ) : EReal) := by
    unfold nonempty
    rw [hc, c0, c1, c2, c3, c4, c5, c6, c7, c8, ← hI]
    simp only [ind_eq, ← EReal.coe_add, ← Nat.cast_add]
  choose w hw using weight_real b
  have hwt : ∀ k, wt ((full b : ℝ) : EReal) ((inBin b k : ℝ) : EReal) = (w k : EReal) := hw
  unfold finalOf
  refine congrArg (fun q => Ideal.div q (Ideal.ofBits .f32 0x4B7A0000#32)) ?_
  simp only [hn, hc, hs, s0, s1, s2, s3, s4, s5, s6, s7, s8, c0, c1, c2, c3, c4, c5, c6, c7, c8, hwt, hw, Ideal.ofBits_zero_f32, mul_zero, zero_add,
    ← EReal.coe_mul, ← EReal.coe_add]
  rw [← EReal.coe_zero, ← EReal.coe_sub]
  refine Eq.trans ?_ (coe_total Finset.univ fun y => -f y * w (b y))
  rw [sum_weighted]
  refine congrArg _ ?_
  rw [sum_ten]
  ring

end Cert.Equation

end
-- ==== Proof.Result.lean ====
/-
  The kernel's result at the ideal instance: what the last grid point leaves, as a scalar expression of sums over all the elements.
-/
module

public import proofs.«01_k».proof.Proof.Final
public import Idealize.ShloMosaic.Lib.Claim

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The sum of a plane is the sum of its entries. -/
theorem planeSum_eq (w : Vec Ideal S19x8x128 .f32) (p : Fin 19) :
    planeSum (planeOf w p) = ∑ r : Fin 8, ∑ l : Fin 128, (w (ix3 p r l) : EReal) := by
  have hp : ∀ (j : Fin 8) (k : Fin 128), planeOf w p (ix3 (0 : Fin 1) j k) = w (ix3 p j k) := by
    intro j k
    unfold planeOf
    refine congrArg w (funext fun b => Fin.ext ?_)
    refine (Rect.idx_unit_val _ _ _ _ b).trans ?_
    fin_cases b
    · exact Nat.add_zero _
    · exact Nat.zero_add _
    · exact Nat.zero_add _
  unfold planeSum
  pointwise [k0_pay266]
  simp only [hp]

/-- The zero fill is zero everywhere. -/
theorem fill_zero (z : S19x8x128.Idx) : (k0_pay290 (F := Ideal) z : EReal) = 0 := by
  have h : k0_pay290 (F := Ideal) = fun _ => Ideal.ofBits .f32 0x00000000#32 := shapeCast_self (s := S19x8x128) _ _
  rw [h]
  exact Ideal.ofBits_zero_f32

/-- The scratch after point `n`: each entry holds the contributions of the points so far. -/
theorem scratch_eq (c : Dev nD) (n : ℕ) (hn : n < cfg0.N) (z : S19x8x128.Idx) :
    (outsAt0 m c n hn).2 z = ∑ s : Fin (n + 1), loopSum (iblk m c 0 ⟨s.val, by omega⟩) (iblk m c 1 ⟨s.val, by omega⟩) (z 0) (ix2 (z 1) (z 2)) := by
  have hN : cfg0.N = 16 := N_0
  induction n with
  | zero =>
    have h := outsAt0_A m c ⟨0, hn⟩ rfl (by dsimp only; omega)
    refine (congrArg (fun o => o.2 z) h).trans ?_
    dsimp only
    rw [sout_A]
    simp only [planeAdd, fill_zero, zero_add]
    exact (Fin.sum_univ_one (fun s : Fin 1 => loopSum (iblk m c 0 ⟨s.val, by omega⟩) (iblk m c 1 ⟨s.val, by omega⟩) (z 0) (ix2 (z 1) (z 2)))).symm
  | succ n ih =>
    have hn' : n < cfg0.N := by omega
    rw [Fin.sum_univ_castSucc]
    by_cases h15 : n + 1 = 15
    · have h := outsAt0_C m c ⟨n + 1, hn⟩ (by dsimp only; omega) (by dsimp only; omega)
      refine (congrArg (fun o => o.2 z) h).trans ?_
      dsimp only
      rw [sout_C]
      exact congrArg (· + _) (ih hn')
    · have h := outsAt0_B m c ⟨n + 1, hn⟩ (by dsimp only; omega) (by dsimp only; omega)
      refine (congrArg (fun o => o.2 z) h).trans ?_
      dsimp only
      rw [sout_B]
      exact congrArg (· + _) (ih hn')

/-- The scratch planes once the last point's contributions are added. -/
theorem last_planes (c : Dev nD) (z : S19x8x128.Idx) :
    planeAdd (outsAt0 m c 14 (by have : cfg0.N = 16 := N_0; omega)).2 (iblk m c 0 t0_15) (iblk m c 1 t0_15) z
      = ∑ s : Fin 16, loopSum (iblk m c 0 ⟨s.val, by have : cfg0.N = 16 := N_0; omega⟩) (iblk m c 1 ⟨s.val, by have : cfg0.N = 16 := N_0; omega⟩) (z 0) (ix2 (z 1) (z 2)) := by
  rw [Fin.sum_univ_castSucc]
  exact congrArg (· + _) (scratch_eq m c 14 _ z)

/-- The reshape after the region reads the region's result. -/
theorem tail_v3 (c : Dev nD) : Pipeline.afterTail₀ cfgs (dats m) 0 (V0 m) [hostOps1] c main_v3
    = shapeCast S_ ((dats m 0 c).arrAt 2 cfg0.N) shapeCasts_S1x1_S_ := by
  unfold Pipeline.afterTail₀
  simp only [hostOps1, List.flatten_cons, List.flatten_nil, List.append_nil]
  after_results
  refine congrArg (fun A => shapeCast S_ A shapeCasts_S1x1_S_) ?_
  exact Pipeline.withArrays_arr spec0 (by decide) c (V0 m c) (fun w => (dats m 0 c).arrAt w cfg0.N) 2

/-- The region's result: the scalar expression of the plane sums. -/
theorem arr_eq (c : Dev nD) : (dats m 0 c).arrAt 2 cfg0.N = fun _ => finalOf (fun p => planeSum (planeOf
    (planeAdd (outsAt0 m c 14 (by have : cfg0.N = 16 := N_0; omega)).2 (iblk m c 0 t0_15) (iblk m c 1 t0_15)) p)) := by
  refine (dats m 0 c).arrAt_eq_of_after_last 2 t0_15 (by decide +kernel) _ fun j => ?_
  blk_simp
  rw [after0_2, outsAt0_C m c t0_15 (by decide) (by decide)]
  dsimp only
  rw [out_C]
  rfl

/-- Window 0's array as the region finds it: the first argument transposed. -/
theorem V0_eq (c : Dev nD) (i : Fin 1000) (j : Fin 16384) : V m c main_v0 (ix2 i j) = m ((c.tc : Thread nD τ).loc main_arg0) (ix2 j i) := by
  entry_read
  simp only [hostOps0, List.flatten_cons, List.flatten_nil, List.append_nil]
  after_results
  pointwise []

/-- Window 1's array as the region finds it: the second argument transposed. -/
theorem V1_eq (c : Dev nD) (i : Fin 1000) (j : Fin 16384) : V m c main_v1 (ix2 i j) = m ((c.tc : Thread nD τ).loc main_arg1) (ix2 j i) := by
  entry_read
  simp only [hostOps0, List.flatten_cons, List.flatten_nil, List.append_nil]
  after_results
  pointwise []

/-- The printed index maps of the two input windows. -/
theorem win_index : ∀ t : Fin cfg0.N, win0_0.index t = ![0, t.val] ∧ win0_1.index t = ![0, t.val] := by decide

/-- A block of window 0 at a chunk's entry is the first argument's entry. -/
theorem blk0 (c : Dev nD) (t : Fin cfg0.N) (n : Fin 125) (q : Fin 8) (r : Fin 8) (l : Fin 128) (hi : n.val * 8 + r.val < 1000)
    (hj : t.val * 1024 + (q.val * 128 + l.val) < 16384) :
    iblk m c 0 t (chunkIdx n q (ix2 r l)) = m ((c.tc : Thread nD τ).loc main_arg0) (ix2 ⟨t.val * 1024 + (q.val * 128 + l.val), hj⟩ ⟨n.val * 8 + r.val, hi⟩) := by
  refine Eq.trans ?_ (V0_eq m c _ _)
  blk_ext [iblk, chunkIdx, win_index t]

/-- A block of window 1 at a chunk's entry is the second argument's entry. -/
theorem blk1 (c : Dev nD) (t : Fin cfg0.N) (n : Fin 125) (q : Fin 8) (r : Fin 8) (l : Fin 128) (hi : n.val * 8 + r.val < 1000)
    (hj : t.val * 1024 + (q.val * 128 + l.val) < 16384) :
    iblk m c 1 t (chunkIdx n q (ix2 r l)) = m ((c.tc : Thread nD τ).loc main_arg1) (ix2 ⟨t.val * 1024 + (q.val * 128 + l.val), hj⟩ ⟨n.val * 8 + r.val, hi⟩) := by
  refine Eq.trans ?_ (V1_eq m c _ _)
  blk_ext [iblk, chunkIdx, win_index t]

/-- Points, trips, chunks, rows and lanes together run over the whole array once. -/
theorem sum_all (g : Fin 1000 → Fin 16384 → EReal) :
    ∑ r : Fin 8, ∑ l : Fin 128, ∑ s : Fin 16, ∑ n : Fin 125, ∑ q : Fin 8, g ⟨n.val * 8 + r.val, by omega⟩ ⟨s.val * 1024 + (q.val * 128 + l.val), by omega⟩
      = ∑ i : Fin 1000, ∑ j : Fin 16384, g i j := by
  calc _ = ∑ r : Fin 8, ∑ l : Fin 128, ∑ n : Fin 125, ∑ s : Fin 16, ∑ q : Fin 8, g ⟨n.val * 8 + r.val, by omega⟩ ⟨s.val * 1024 + (q.val * 128 + l.val), by omega⟩ :=
        Finset.sum_congr rfl fun _ _ => Finset.sum_congr rfl fun _ _ => Finset.sum_comm
    _ = ∑ r : Fin 8, ∑ n : Fin 125, ∑ l : Fin 128, ∑ s : Fin 16, ∑ q : Fin 8, g ⟨n.val * 8 + r.val, by omega⟩ ⟨s.val * 1024 + (q.val * 128 + l.val), by omega⟩ :=
        Finset.sum_congr rfl fun _ _ => Finset.sum_comm
    _ = ∑ n : Fin 125, ∑ r : Fin 8, ∑ l : Fin 128, ∑ s : Fin 16, ∑ q : Fin 8, g ⟨n.val * 8 + r.val, by omega⟩ ⟨s.val * 1024 + (q.val * 128 + l.val), by omega⟩ :=
        Finset.sum_comm
    _ = ∑ n : Fin 125, ∑ r : Fin 8, ∑ s : Fin 16, ∑ l : Fin 128, ∑ q : Fin 8, g ⟨n.val * 8 + r.val, by omega⟩ ⟨s.val * 1024 + (q.val * 128 + l.val), by omega⟩ :=
        Finset.sum_congr rfl fun _ _ => Finset.sum_congr rfl fun _ _ => Finset.sum_comm
    _ = ∑ n : Fin 125, ∑ r : Fin 8, ∑ s : Fin 16, ∑ q : Fin 8, ∑ l : Fin 128, g ⟨n.val * 8 + r.val, by omega⟩ ⟨s.val * 1024 + (q.val * 128 + l.val), by omega⟩ :=
        Finset.sum_congr rfl fun _ _ => Finset.sum_congr rfl fun _ _ => Finset.sum_congr rfl fun _ _ => Finset.sum_comm
    _ = ∑ n : Fin 125, ∑ r : Fin 8, ∑ s : Fin 16, ∑ k : Fin 1024, g ⟨n.val * 8 + r.val, by omega⟩ ⟨s.val * 1024 + k.val, by omega⟩ :=
        Finset.sum_congr rfl fun n _ => Finset.sum_congr rfl fun r _ => Finset.sum_congr rfl fun s _ =>
          Fin.sum_mul_add_fin 8 128 (fun k : Fin 1024 => g ⟨n.val * 8 + r.val, by omega⟩ ⟨s.val * 1024 + k.val, by omega⟩) rfl
    _ = ∑ n : Fin 125, ∑ r : Fin 8, ∑ j : Fin 16384, g ⟨n.val * 8 + r.val, by omega⟩ j :=
        Finset.sum_congr rfl fun n _ => Finset.sum_congr rfl fun r _ => Fin.sum_mul_add_fin 16 1024 (fun j : Fin 16384 => g ⟨n.val * 8 + r.val, by omega⟩ j) rfl
    _ = _ := Fin.sum_mul_add_fin 125 8 (fun i : Fin 1000 => ∑ j : Fin 16384, g i j) rfl

/-- The sum over all the elements of what each adds to plane `p`. -/
def allSum (X T : Vec Ideal S16384x1000 .f32) (p : Fin 19) : EReal := ∑ i : Fin 1000, ∑ j : Fin 16384, elt p (X (ix2 j i)) (T (ix2 j i))

/-- Each final plane sums to the whole array's sum. -/
theorem planes_total (c : Dev nD) (p : Fin 19) :
    planeSum (planeOf (planeAdd (outsAt0 m c 14 (by have : cfg0.N = 16 := N_0; omega)).2 (iblk m c 0 t0_15) (iblk m c 1 t0_15)) p)
      = allSum (m ((c.tc : Thread nD τ).loc main_arg0)) (m ((c.tc : Thread nD τ).loc main_arg1)) p := by
  rw [planeSum_eq]
  refine Eq.trans ?_ (sum_all fun i j => elt p (m ((c.tc : Thread nD τ).loc main_arg0) (ix2 j i)) (m ((c.tc : Thread nD τ).loc main_arg1) (ix2 j i)))
  refine Finset.sum_congr rfl fun r _ => Finset.sum_congr rfl fun l _ => ?_
  rw [last_planes]
  refine Finset.sum_congr rfl fun s _ => ?_
  refine Finset.sum_congr rfl fun n _ => Finset.sum_congr rfl fun q _ => ?_
  simp only [ix3_0, ix3_1, ix3_2]
  rw [blk0, blk1]

/-- The kernel's result. -/
def kval (X T : Vec Ideal S16384x1000 .f32) : EReal := finalOf (allSum X T)

/-- Every run leaves the result at `kval` of the arguments and the arguments as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v3) = (fun _ => kval (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m g
  · rw [tail_v3, arr_eq]
    simp only [planes_total]
    rfl
  · exact W_main_arg0 m _ c
  · exact W_main_arg1 m _ c

end Cert.KernelIdeal.Hist

end
-- ==== Proof.Equation.lean ====
/-
  The kernel's result equals the reference's, for predictions strictly between zero and one and targets from zero to one.
-/
module

public import proofs.«01_k».proof.Proof.Weighted
public import proofs.«01_k».proof.Proof.Result
public import proofs.«01_k».proof.Pre_probabilities

@[expose] public section

set_option maxRecDepth 16384

noncomputable section

namespace Cert.Equation

open Idealize.ShloMosaic
open Cert.KernelIdeal.Hist (elt allSum kval eNl eMask)
open Cert.ReferenceIdeal (S16384x1000)

/-- A sum over the index set is the sum over rows and columns. -/
theorem sum_elts {M : Type} [AddCommMonoid M] (g : Elts → M) : ∑ y, g y = ∑ i : Fin 16384, ∑ j : Fin 1000, g (ix2 i j) := by
  refine Eq.trans ?_ (Fintype.sum_prod_type fun k : Fin 16384 × Fin 1000 => g (ix2 k.1 k.2))
  refine Fintype.sum_equiv ⟨fun y => (y 0, y 1), fun k => ix2 k.1 k.2, fun y => (ValueIdx.eq_ix2 y).symm, fun _ => rfl⟩ _ _ fun y => ?_
  exact congrArg g (ValueIdx.eq_ix2 y)

/-- The arrays hold real numbers: the predictions strictly between zero and one, the targets from zero to one. -/
def Probs (X T : Vec Ideal S16384x1000 .f32) : Prop :=
  ∀ y : Elts, ∃ a b : ℝ, X y = (a : EReal) ∧ T y = (b : EReal) ∧ 0 < a ∧ a < 1 ∧ 0 ≤ b ∧ b ≤ 1

variable {X T : Vec Ideal S16384x1000 .f32}

/-- The bin number of each element. -/
def binAt (X T : Vec Ideal S16384x1000 .f32) (y : Elts) : Fin 10 := binNo (X y) (T y)

/-- The negated loss of each element. -/
def nlAt (X T : Vec Ideal S16384x1000 .f32) (y : Elts) : ℝ := nl (X y) (T y)

/-- The reference's bins are the bin numbers. -/
theorem bins_eq (h : Probs X T) (y : Elts) : Cert.ReferenceIdeal.Hist.bins X T y = BitVec.ofNat 32 (binAt X T y).val := by
  obtain ⟨a, b, ha, hb, h0, h1, h2, h3⟩ := h y
  refine Eq.trans (b := Ideal.fptosi 32 (Cert.KernelIdeal.Hist.eBin (X y) (T y))) rfl ?_
  unfold binAt
  rw [ha, hb, eBin_eq h0 h1 h2 h3, fptosi_bin]

/-- What one element adds to the planes of the sums. -/
theorem elt_sum (h : Probs X T) (p : Fin 9) (y : Elts) :
    elt (p.castAdd 10) (X y) (T y) = ((if binAt X T y = p.succ then nlAt X T y else 0 : ℝ) : EReal) := by
  obtain ⟨a, b, ha, hb, h0, h1, h2, h3⟩ := h y
  have e : elt (p.castAdd 10) (X y) (T y) = eMask ((![0x3F800000#32, 0x40000000#32, 0x40400000#32, 0x40800000#32, 0x40A00000#32, 0x40C00000#32, 0x40E00000#32, 0x41000000#32, 0x41100000#32] : Fin 9 → BitVec 32) p) (X y) (T y) * eNl (X y) (T y) := by
    fin_cases p <;> rfl
  unfold binAt nlAt
  rw [e, ha, hb, eMask_eq h0 h1 h2 h3, eNl_eq b h0 h1, ← EReal.coe_mul, ite_mul, one_mul, zero_mul]

/-- What one element adds to the planes of the counts. -/
theorem elt_count (h : Probs X T) (p : Fin 9) (y : Elts) :
    elt ((p.natAdd 9).castSucc) (X y) (T y) = ((if binAt X T y = p.succ then 1 else 0 : ℝ) : EReal) := by
  obtain ⟨a, b, ha, hb, h0, h1, h2, h3⟩ := h y
  have e : elt ((p.natAdd 9).castSucc) (X y) (T y) = eMask ((![0x3F800000#32, 0x40000000#32, 0x40400000#32, 0x40800000#32, 0x40A00000#32, 0x40C00000#32, 0x40E00000#32, 0x41000000#32, 0x41100000#32] : Fin 9 → BitVec 32) p) (X y) (T y) := by
    fin_cases p <;> rfl
  unfold binAt
  rw [e, ha, hb, eMask_eq h0 h1 h2 h3]

/-- What one element adds to the plane of the total. -/
theorem elt_total (h : Probs X T) (y : Elts) : elt 18 (X y) (T y) = ((nlAt X T y : ℝ) : EReal) := by
  obtain ⟨a, b, ha, hb, h0, h1, h2, h3⟩ := h y
  refine Eq.trans (b := eNl (X y) (T y)) rfl ?_
  unfold nlAt
  rw [ha, hb, eNl_eq b h0 h1]

/-- The sum over the whole arrays of a real contribution. -/
theorem allSum_eq (p : Fin 19) (g : Elts → ℝ) (hg : ∀ y, elt p (X y) (T y) = ((g y : ℝ) : EReal)) :
    allSum X T p = ((∑ y, g y : ℝ) : EReal) := by
  rw [coe_total, sum_elts]
  unfold allSum
  rw [Finset.sum_comm]
  exact Finset.sum_congr rfl fun i _ => Finset.sum_congr rfl fun j _ => hg _

/-- The kernel's plane sums are the bins' sums and counts. -/
theorem planes (h : Probs X T) : Planes (binAt X T) (nlAt X T) (allSum X T) where
  sums p := allSum_eq _ _ (elt_sum h p)
  counts p := (allSum_eq _ _ (elt_count h p)).trans (congrArg _ (inBin_sum (binAt X T) p.succ).symm)
  total := allSum_eq _ _ (elt_total h)

/-- The reference's result is the kernel's. -/
theorem res_eq_kval (h : Probs X T) (m : (ℓ : Loc Cert.ReferenceIdeal.nD Cert.ReferenceIdeal.τ Cert.ReferenceIdeal.sig) → Buf (Elt Ideal) ℓ)
    (c : Dev Cert.ReferenceIdeal.nD)
    (hX : m ((c.tc : Thread Cert.ReferenceIdeal.nD Cert.ReferenceIdeal.τ).loc Cert.ReferenceIdeal.main_arg0) = X)
    (hT : m ((c.tc : Thread Cert.ReferenceIdeal.nD Cert.ReferenceIdeal.τ).loc Cert.ReferenceIdeal.main_arg1) = T) :
    Cert.ReferenceIdeal.Value.res_main_v48 m c = fun _ => kval X T := by
  rw [Cert.ReferenceIdeal.Hist.res_eq m c X T hX hT (binAt X T) (bins_eq h)]
  funext _
  refine Eq.trans ?_ (finalOf_eq (planes h)).symm
  refine congrArg (fun q => Ideal.div q (Ideal.ofBits .f32 0x4B7A0000#32)) ?_
  rw [sum_elts]
  refine Finset.sum_congr rfl fun i _ => Finset.sum_congr rfl fun j _ => ?_
  refine congrArg₂ (· * ·) ?_ rfl
  obtain ⟨a, b, ha, hb, h0, h1, -, -⟩ := h (ix2 i j)
  unfold nlAt
  rw [ha, hb, loss_eq b h0 h1]

/-- A bit made from a decision is one when the decision holds. -/
theorem of_bit {q : Prop} [Decidable q] (h : BitVec.ofBool (decide q) = 1#1) : q := by
  by_contra hn
  rw [decide_eq_false hn] at h
  exact absurd h (by decide)

/-- Of two bits whose conjunction is one, both are one. -/
theorem of_andi {x y : BitVec 1} (h : IntOp.andi x y = 1#1) : x = 1#1 ∧ y = 1#1 := by
  revert x y; decide

/-- The stated condition gives real numbers in range. -/
theorem probs_of_pre [Cert.Pre_probabilities.Facts] (h : Cert.Pre_probabilities.fn (F := Ideal) X T = fun _ => 1#1) : Probs X T := by
  intro y
  have hy := congrFun h y
  obtain ⟨h123, h4⟩ := of_andi hy
  obtain ⟨h12, h3⟩ := of_andi h123
  obtain ⟨h1, h2⟩ := of_andi h12
  have g1 : Ideal.ofBits .f32 0x00000000#32 < X y := of_bit h1
  have g2 : X y < Ideal.ofBits .f32 0x3F800000#32 := of_bit h2
  have g3 : Ideal.ofBits .f32 0x00000000#32 ≤ T y := of_bit h3
  have g4 : T y ≤ Ideal.ofBits .f32 0x3F800000#32 := of_bit h4
  rw [Ideal.ofBits_zero_f32] at g1 g3
  rw [bits_one] at g2 g4
  generalize X y = x at g1 g2 ⊢
  generalize T y = t at g3 g4 ⊢
  induction x using EReal.rec with
  | bot => exact absurd g1 (by simp)
  | top => exact absurd g2 (by simp)
  | coe a =>
    induction t using EReal.rec with
    | bot => exact absurd g3 (by simp)
    | top => exact absurd g4 (not_le_of_gt (EReal.coe_lt_top 1))
    | coe b =>
      exact ⟨a, b, rfl, rfl, EReal.coe_pos.1 g1, EReal.coe_lt_coe_iff.1 g2, EReal.coe_nonneg.1 g3, EReal.coe_le_coe_iff.1 g4⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Cert.Kernel

/-- The precondition's stated facts. -/
theorem preFacts : Cert.Pre_probabilities.Facts := ⟨by decide⟩

/-- The kernel's result is the reference's, for predictions strictly between zero and one and targets from zero to one. -/
theorem algebraic : Cert.algebraic_KernelIdeal_ReferenceIdeal_pre_probabilities (hKernelIdeal := Cert.KernelIdeal.Gen.facts) (hReferenceIdeal := Cert.ReferenceIdeal.Gen.facts) (hPre_probabilities := preFacts) := by
  intro m g m' g' hpre hagree
  refine ⟨fun c => fun _ => Cert.KernelIdeal.Hist.kval (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hist.kernel_run m g, ?_⟩
  refine (θ_run Cert.ReferenceIdeal.defs _ _).mono (fun r h c => ⟨(h c).1.trans ?_, (h c).2⟩) (Cert.ReferenceIdeal.Value.run (F := Ideal) m' g')
  haveI := preFacts
  exact Cert.Equation.res_eq_kval (Cert.Equation.probs_of_pre (hpre c)) m' c (hagree c).1 (hagree c).2

/-- The claims, in the order of the statement. -/
theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2,
    sem_eq_zero_of_no_sems (by decide) r.2⟩) (Cert.ReferenceIdeal.Value.run (F := Ideal) m ρ),
  fun m ρ _ => (θ_run Cert.ReferenceIdeal.defs _ _).mono (fun r h => ⟨fun c => (h c).2,
    sem_eq_zero_of_no_sems (by decide) r.2⟩) (Cert.ReferenceIdeal.Value.run (F := Ideal) m ρ),
  trivial, algebraic⟩

end Cert.Proof

end
